-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)) (v2 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_v9) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v162) = v0 c
          ∧ r.2.mem ((c.tc : Thread Cert.ReferenceIdeal.nD Cert.ReferenceIdeal.τ).loc Cert.ReferenceIdeal.main_v165) = v1 c
          ∧ r.2.mem ((c.tc : Thread Cert.ReferenceIdeal.nD Cert.ReferenceIdeal.τ).loc Cert.ReferenceIdeal.main_v70) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x64 : Shape := ⟨2, ![2048, 64]⟩
abbrev S2048x128x64 : Shape := ⟨3, ![2048, 128, 64]⟩
abbrev S1x128 : Shape := ⟨2, ![1, 128]⟩
abbrev S1 : Shape := ⟨1, ![1]⟩
abbrev S128x128 : Shape := ⟨2, ![128, 128]⟩
abbrev S128 : Shape := ⟨1, ![128]⟩
abbrev S64 : Shape := ⟨1, ![64]⟩
abbrev S2048x128 : Shape := ⟨2, ![2048, 128]⟩
abbrev S1x1 : Shape := ⟨2, ![1, 1]⟩
abbrev S1x64 : Shape := ⟨2, ![1, 64]⟩
abbrev S2x2048x64 : Shape := ⟨3, ![2, 2048, 64]⟩
abbrev S2x2048x128x64 : Shape := ⟨4, ![2, 2048, 128, 64]⟩
abbrev S256x128 : Shape := ⟨2, ![256, 128]⟩
abbrev S64x64 : Shape := ⟨2, ![64, 64]⟩
abbrev S64x128 : Shape := ⟨2, ![64, 128]⟩
abbrev S64x128x64 : Shape := ⟨3, ![64, 128, 64]⟩
abbrev S2x64x64 : Shape := ⟨3, ![2, 64, 64]⟩
abbrev S2x64x128x64 : Shape := ⟨4, ![2, 64, 128, 64]⟩
abbrev S8x128 : Shape := ⟨2, ![8, 128]⟩
abbrev S64x1x64 : Shape := ⟨3, ![64, 1, 64]⟩
abbrev S64x1 : Shape := ⟨2, ![64, 1]⟩
abbrev S64x128x1 : Shape := ⟨3, ![64, 128, 1]⟩
abbrev S1x64x64 : Shape := ⟨3, ![1, 64, 64]⟩
abbrev S1x64x1 : Shape := ⟨3, ![1, 64, 1]⟩
abbrev S1x1x1 : Shape := ⟨3, ![1, 1, 1]⟩
abbrev S1x1x64 : Shape := ⟨3, ![1, 1, 64]⟩
abbrev S1x64x128x64 : Shape := ⟨4, ![1, 64, 128, 64]⟩
abbrev S_ : Shape := ⟨0, ![]⟩

abbrev nBuf : Space → Nat
  | .hbm => 25
  | .vmem => 24
  | .smem => 0
  | _ => 0

abbrev bufTy : (tb : Table) → Fin (tcTables nBuf tb) → BufTy
  | .hbm, ⟨0, _⟩ => ⟨S2048x64, .f32⟩
  | .hbm, ⟨1, _⟩ => ⟨S2048x64, .f32⟩
  | .hbm, ⟨2, _⟩ => ⟨S2048x128x64, .f32⟩
  | .hbm, ⟨3, _⟩ => ⟨S2048x128x64, .f32⟩
  | .hbm, ⟨4, _⟩ => ⟨S1x128, .f32⟩
  | .hbm, ⟨5, _⟩ => ⟨S1, .f32⟩
  | .hbm, ⟨6, _⟩ => ⟨S128x128, .f32⟩
  | .hbm, ⟨7, _⟩ => ⟨S128, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S64, .f32⟩
  | .hbm, ⟨12, _⟩ => ⟨S2048x128, .f32⟩
  | .hbm, ⟨13, _⟩ => ⟨S128x128, .f32⟩
  | .hbm, ⟨14, _⟩ => ⟨S1x128, .f32⟩
  | .hbm, ⟨15, _⟩ => ⟨S1x1, .f32⟩
  | .hbm, ⟨16, _⟩ => ⟨S1x64, .f32⟩
  | .hbm, ⟨17, _⟩ => ⟨S1x64, .f32⟩
  | .hbm, ⟨18, _⟩ => ⟨S1x64, .f32⟩
  | .hbm, ⟨19, _⟩ => ⟨S1x64, .f32⟩
  | .hbm, ⟨20, _⟩ => ⟨S2x2048x64, .f32⟩
  | .hbm, ⟨21, _⟩ => ⟨S2x2048x128x64, .f32⟩
  | .hbm, ⟨22, _⟩ => ⟨S256x128, .f32⟩
  | .hbm, ⟨23, _⟩ => ⟨S_, .f32⟩
  | .hbm, ⟨24, _⟩ => ⟨S_, .f32⟩
  | .local _ .vmem, ⟨0, _⟩ => ⟨S64x64, .f32⟩
  | .local _ .vmem, ⟨1, _⟩ => ⟨S64x64, .f32⟩
  | .local _ .vmem, ⟨2, _⟩ => ⟨S64x64, .f32⟩
  | .local _ .vmem, ⟨3, _⟩ => ⟨S64x64, .f32⟩
  | .local _ .vmem, ⟨4, _⟩ => ⟨S64x128, .f32⟩
  | .local _ .vmem, ⟨5, _⟩ => ⟨S64x128, .f32⟩
  | .local _ .vmem, ⟨6, _⟩ => ⟨S64x128x64, .f32⟩
  | .local _ .vmem, ⟨7, _⟩ => ⟨S64x128x64, .f32⟩
  | .local _ .vmem, ⟨8, _⟩ => ⟨S64x128x64, .f32⟩
  | .local _ .vmem, ⟨9, _⟩ => ⟨S64x128x64, .f32⟩
  | .local _ .vmem, ⟨10, _⟩ => ⟨S128x128, .f32⟩
  | .local _ .vmem, ⟨11, _⟩ => ⟨S1x128, .f32⟩
  | .local _ .vmem, ⟨12, _⟩ => ⟨S1x128, .f32⟩
  | .local _ .vmem, ⟨13, _⟩ => ⟨S1x1, .f32⟩
  | .local _ .vmem, ⟨14, _⟩ => ⟨S1x64, .f32⟩
  | .local _ .vmem, ⟨15, _⟩ => ⟨S1x64, .f32⟩
  | .local _ .vmem, ⟨16, _⟩ => ⟨S1x64, .f32⟩
  | .local _ .vmem, ⟨17, _⟩ => ⟨S1x64, .f32⟩
  | .local _ .vmem, ⟨18, _⟩ => ⟨S2x64x64, .f32⟩
  | .local _ .vmem, ⟨19, _⟩ => ⟨S2x64x64, .f32⟩
  | .local _ .vmem, ⟨20, _⟩ => ⟨S2x64x128x64, .f32⟩
  | .local _ .vmem, ⟨21, _⟩ => ⟨S2x64x128x64, .f32⟩
  | .local _ .vmem, ⟨22, _⟩ => ⟨S8x128, .f32⟩
  | .local _ .vmem, ⟨23, _⟩ => ⟨S8x128, .f32⟩
  | _, _ => ⟨S2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8_0 : Ref sig .tc := ⟨.hbm, 20, rfl⟩
abbrev main_v8_1 : Ref sig .tc := ⟨.hbm, 21, rfl⟩
abbrev main_v8_2 : Ref sig .tc := ⟨.hbm, 22, rfl⟩
abbrev main_cst : Ref sig .tc := ⟨.hbm, 23, rfl⟩
abbrev main_v9 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_14 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x128x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x128x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S2x64x64 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S2x64x128x64 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S8x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== ReferenceIdeal.lean ====
abbrev S2048x64 : Shape := ⟨2, ![2048, 64]⟩
abbrev S2048x128x64 : Shape := ⟨3, ![2048, 128, 64]⟩
abbrev S1x128 : Shape := ⟨2, ![1, 128]⟩
abbrev S1 : Shape := ⟨1, ![1]⟩
abbrev S128x128 : Shape := ⟨2, ![128, 128]⟩
abbrev S128 : Shape := ⟨1, ![128]⟩
abbrev S64 : Shape := ⟨1, ![64]⟩
abbrev S2048x1x64 : Shape := ⟨3, ![2048, 1, 64]⟩
abbrev S_ : Shape := ⟨0, ![]⟩
abbrev S2048x128 : Shape := ⟨2, ![2048, 128]⟩
abbrev S2048 : Shape := ⟨1, ![2048]⟩
abbrev S2048x1 : Shape := ⟨2, ![2048, 1]⟩
abbrev S2048x128x1 : Shape := ⟨3, ![2048, 128, 1]⟩
abbrev S128x1 : Shape := ⟨2, ![128, 1]⟩
abbrev S1x1 : Shape := ⟨2, ![1, 1]⟩
abbrev S2048x1x1 : Shape := ⟨3, ![2048, 1, 1]⟩
abbrev S2048x3 : Shape := ⟨2, ![2048, 3]⟩
abbrev S2048x3x1 : Shape := ⟨3, ![2048, 3, 1]⟩
abbrev S2048x3x2 : Shape := ⟨3, ![2048, 3, 2]⟩
abbrev S1x1x64 : Shape := ⟨3, ![1, 1, 64]⟩
abbrev S1x2048x64 : Shape := ⟨3, ![1, 2048, 64]⟩
abbrev S2x2048x64 : Shape := ⟨3, ![2, 2048, 64]⟩
abbrev S1x2048x128x64 : Shape := ⟨4, ![1, 2048, 128, 64]⟩
abbrev S2x2048x128x64 : Shape := ⟨4, ![2, 2048, 128, 64]⟩

abbrev nBuf : Space → Nat
  | .hbm => 214
  | .vmem => 0
  | .smem => 0
  | _ => 0

abbrev hbmTy0_0 (i : Nat) : BufTy := match i % 128 with
  | 0 => ⟨S2048x64, .f32⟩
  | 1 => ⟨S2048x64, .f32⟩
  | 2 => ⟨S2048x128x64, .f32⟩
  | 3 => ⟨S2048x128x64, .f32⟩
  | 4 => ⟨S1x128, .f32⟩
  | 5 => ⟨S1, .f32⟩
  | 6 => ⟨S128x128, .f32⟩
  | 7 => ⟨S128, .f32⟩
  | 8 => ⟨S64, .f32⟩
  | 9 => ⟨S64, .f32⟩
  | 10 => ⟨S64, .f32⟩
  | 11 => ⟨S64, .f32⟩
  | 12 => ⟨S2048x1x64, .f32⟩
  | 13 => ⟨S2048x1x64, .f32⟩
  | 14 => ⟨S2048x128x64, .f32⟩
  | 15 => ⟨S2048x128x64, .f32⟩
  | 16 => ⟨S2048x128x64, .f32⟩
  | 17 => ⟨S2048x128x64, .f32⟩
  | 18 => ⟨S2048x128x64, .f32⟩
  | 19 => ⟨S_, .f32⟩
  | 20 => ⟨S2048x128, .f32⟩
  | 21 => ⟨S_, .f32⟩
  | 22 => ⟨S2048, .f32⟩
  | 23 => ⟨S2048x1, .f32⟩
  | 24 => ⟨S2048x128, .f32⟩
  | 25 => ⟨S2048x128, .f32⟩
  | 26 => ⟨S_, .f32⟩
  | 27 => ⟨S2048, .f32⟩
  | 28 => ⟨S_, .f32⟩
  | 29 => ⟨S2048, .f32⟩
  | 30 => ⟨S2048, .f32⟩
  | 31 => ⟨S2048x1, .f32⟩
  | 32 => ⟨S2048x128, .f32⟩
  | 33 => ⟨S2048x128, .f32⟩
  | 34 => ⟨S2048x128, .f32⟩
  | 35 => ⟨S_, .f32⟩
  | 36 => ⟨S2048, .f32⟩
  | 37 => ⟨S2048x1, .f32⟩
  | 38 => ⟨S2048x128, .f32⟩
  | 39 => ⟨S2048x128, .f32⟩
  | 40 => ⟨S2048x128x1, .f32⟩
  | 41 => ⟨S2048x128x64, .f32⟩
  | 42 => ⟨S2048x128x64, .f32⟩
  | 43 => ⟨S_, .f32⟩
  | 44 => ⟨S2048x64, .f32⟩
  | 45 => ⟨S2048x128x64, .f32⟩
  | 46 => ⟨S2048x128x64, .f32⟩
  | 47 => ⟨S_, .f32⟩
  | 48 => ⟨S2048x64, .f32⟩
  | 49 => ⟨S2048x128, .f32⟩
  | 50 => ⟨S128x1, .f32⟩
  | 51 => ⟨S2048x1, .f32⟩
  | 52 => ⟨S1x1, .f32⟩
  | 53 => ⟨S2048x1, .f32⟩
  | 54 => ⟨S2048x1, .f32⟩
  | 55 => ⟨S2048x1, .f32⟩
  | 56 => ⟨S2048x1, .f32⟩
  | 57 => ⟨S_, .f32⟩
  | 58 => ⟨S2048x1, .f32⟩
  | 59 => ⟨S2048x1, .f32⟩
  | 60 => ⟨S_, .f32⟩
  | 61 => ⟨S2048x1, .f32⟩
  | 62 => ⟨S2048x1, .f32⟩
  | 63 => ⟨S2048x1x1, .f32⟩
  | 64 => ⟨S128x128, .f32⟩
  | 65 => ⟨S2048x128, .f32⟩
  | 66 => ⟨S1x128, .f32⟩
  | 67 => ⟨S2048x128, .f32⟩
  | 68 => ⟨S2048x128, .f32⟩
  | 69 => ⟨S_, .f32⟩
  | 70 => ⟨S2048, .f32⟩
  | 71 => ⟨S2048x1, .f32⟩
  | 72 => ⟨S2048x128, .f32⟩
  | 73 => ⟨S2048x128, .f32⟩
  | 74 => ⟨S_, .f32⟩
  | 75 => ⟨S2048, .f32⟩
  | 76 => ⟨S_, .f32⟩
  | 77 => ⟨S2048, .f32⟩
  | 78 => ⟨S2048, .f32⟩
  | 79 => ⟨S2048x1, .f32⟩
  | 80 => ⟨S2048x128, .f32⟩
  | 81 => ⟨S2048x128, .f32⟩
  | 82 => ⟨S2048x128, .f32⟩
  | 83 => ⟨S_, .f32⟩
  | 84 => ⟨S2048, .f32⟩
  | 85 => ⟨S2048x1, .f32⟩
  | 86 => ⟨S2048x128, .f32⟩
  | 87 => ⟨S2048x128, .f32⟩
  | 88 => ⟨S_, .f32⟩
  | 89 => ⟨S2048x128, .f32⟩
  | 90 => ⟨S2048x128, .f32⟩
  | 91 => ⟨S2048x128, .f32⟩
  | 92 => ⟨S2048x128, .f32⟩
  | 93 => ⟨S_, .f32⟩
  | 94 => ⟨S2048, .f32⟩
  | 95 => ⟨S2048, .f32⟩
  | 96 => ⟨S_, .f32⟩
  | 97 => ⟨S_, .f32⟩
  | 98 => ⟨S_, .f32⟩
  | 99 => ⟨S_, .f32⟩
  | 100 => ⟨S2048x3, .f32⟩
  | 101 => ⟨S2048x3, .i32⟩
  | 102 => ⟨S_, .f32⟩
  | 103 => ⟨S2048x128, .f32⟩
  | 104 => ⟨S2048, .i32⟩
  | 105 => ⟨S2048x1, .i32⟩
  | 106 => ⟨S_, .i32⟩
  | 107 => ⟨S2048x1, .i32⟩
  | 108 => ⟨S2048x1, .i1⟩
  | 109 => ⟨S_, .i32⟩
  | 110 => ⟨S2048x1, .i32⟩
  | 111 => ⟨S2048x1, .i32⟩
  | 112 => ⟨S2048x1, .i32⟩
  | 113 => ⟨S_, .i32⟩
  | 114 => ⟨S2048x3, .i32⟩
  | 115 => ⟨S2048x3, .i1⟩
  | 116 => ⟨S_, .i32⟩
  | 117 => ⟨S2048x3, .i32⟩
  | 118 => ⟨S2048x3, .i32⟩
  | 119 => ⟨S2048x3, .i32⟩
  | 120 => ⟨S2048x3, .i32⟩
  | 121 => ⟨S2048x3x1, .i32⟩
  | 122 => ⟨S2048x3x1, .i32⟩
  | 123 => ⟨S2048x3x2, .i32⟩
  | 124 => ⟨S2048x128, .f32⟩
  | 125 => ⟨S_, .f32⟩
  | 126 => ⟨S2048, .f32⟩
  | 127 => ⟨S2048x1, .f32⟩
  | _ => ⟨S2048x64, .f32⟩

abbrev hbmTy0_1 (i : Nat) : BufTy := match i % 128 with
  | 0 => ⟨S_, .f32⟩
  | 1 => ⟨S2048x1, .f32⟩
  | 2 => ⟨S2048x1, .f32⟩
  | 3 => ⟨S2048x128, .f32⟩
  | 4 => ⟨S2048x128, .f32⟩
  | 5 => ⟨S2048x128x1, .f32⟩
  | 6 => ⟨S2048x128x1, .f32⟩
  | 7 => ⟨S2048x128x1, .f32⟩
  | 8 => ⟨S2048x1x64, .f32⟩
  | 9 => ⟨S2048x1x64, .f32⟩
  | 10 => ⟨S2048x128x64, .f32⟩
  | 11 => ⟨S2048x128x64, .f32⟩
  | 12 => ⟨S2048x128x64, .f32⟩
  | 13 => ⟨S2048x128x64, .f32⟩
  | 14 => ⟨S2048x128x64, .f32⟩
  | 15 => ⟨S2048x128x64, .f32⟩
  | 16 => ⟨S2048x128x64, .f32⟩
  | 17 => ⟨S2048x128x64, .f32⟩
  | 18 => ⟨S2048x128x64, .f32⟩
  | 19 => ⟨S2048x128x64, .f32⟩
  | 20 => ⟨S2048x128x64, .f32⟩
  | 21 => ⟨S2048x128x64, .f32⟩
  | 22 => ⟨S_, .f32⟩
  | 23 => ⟨S2048x128, .f32⟩
  | 24 => ⟨S2048x128x1, .f32⟩
  | 25 => ⟨S_, .f32⟩
  | 26 => ⟨S2048x128x1, .f32⟩
  | 27 => ⟨S2048x128x1, .f32⟩
  | 28 => ⟨S2048x128x64, .f32⟩
  | 29 => ⟨S2048x128x64, .f32⟩
  | 30 => ⟨S2048x128x64, .f32⟩
  | 31 => ⟨S_, .f32⟩
  | 32 => ⟨S2048x128, .f32⟩
  | 33 => ⟨S2048x128x1, .f32⟩
  | 34 => ⟨S_, .f32⟩
  | 35 => ⟨S2048x128x1, .f32⟩
  | 36 => ⟨S2048x128x1, .f32⟩
  | 37 => ⟨S2048x128x64, .f32⟩
  | 38 => ⟨S2048x128x64, .f32⟩
  | 39 => ⟨S_, .f32⟩
  | 40 => ⟨S2048x128x1, .f32⟩
  | 41 => ⟨S2048x128x1, .f32⟩
  | 42 => ⟨S2048x128x1, .f32⟩
  | 43 => ⟨S2048x128x64, .f32⟩
  | 44 => ⟨S2048x128x64, .f32⟩
  | 45 => ⟨S1x1x64, .f32⟩
  | 46 => ⟨S2048x128x64, .f32⟩
  | 47 => ⟨S2048x128x64, .f32⟩
  | 48 => ⟨S1x1x64, .f32⟩
  | 49 => ⟨S2048x128x64, .f32⟩
  | 50 => ⟨S2048x128x64, .f32⟩
  | 51 => ⟨S_, .f32⟩
  | 52 => ⟨S2048x128, .f32⟩
  | 53 => ⟨S2048x128x1, .f32⟩
  | 54 => ⟨S_, .f32⟩
  | 55 => ⟨S2048x128x1, .f32⟩
  | 56 => ⟨S2048x128x1, .f32⟩
  | 57 => ⟨S2048x128x64, .f32⟩
  | 58 => ⟨S2048x128x64, .f32⟩
  | 59 => ⟨S2048x128x64, .f32⟩
  | 60 => ⟨S_, .f32⟩
  | 61 => ⟨S2048x128, .f32⟩
  | 62 => ⟨S2048x128x1, .f32⟩
  | 63 => ⟨S_, .f32⟩
  | 64 => ⟨S2048x128x1, .f32⟩
  | 65 => ⟨S2048x128x1, .f32⟩
  | 66 => ⟨S2048x128x64, .f32⟩
  | 67 => ⟨S2048x128x64, .f32⟩
  | 68 => ⟨S_, .f32⟩
  | 69 => ⟨S2048x128x1, .f32⟩
  | 70 => ⟨S2048x128x1, .f32⟩
  | 71 => ⟨S2048x128x1, .f32⟩
  | 72 => ⟨S2048x128x64, .f32⟩
  | 73 => ⟨S2048x128x64, .f32⟩
  | 74 => ⟨S1x1x64, .f32⟩
  | 75 => ⟨S2048x128x64, .f32⟩
  | 76 => ⟨S2048x128x64, .f32⟩
  | 77 => ⟨S1x1x64, .f32⟩
  | 78 => ⟨S2048x128x64, .f32⟩
  | 79 => ⟨S2048x128x64, .f32⟩
  | 80 => ⟨S1x2048x64, .f32⟩
  | 81 => ⟨S1x2048x64, .f32⟩
  | 82 => ⟨S2x2048x64, .f32⟩
  | 83 => ⟨S1x2048x128x64, .f32⟩
  | 84 => ⟨S1x2048x128x64, .f32⟩
  | 85 => ⟨S2x2048x128x64, .f32⟩
  | _ => ⟨S2048x64, .f32⟩

abbrev hbmTy (i : Nat) : BufTy := match i / 128 with
  | 0 => hbmTy0_0 i
  | 1 => hbmTy0_1 i
  | _ => ⟨S2048x64, .f32⟩

abbrev bufTy : (tb : Table) → Fin (tcTables nBuf tb) → BufTy
  | .hbm, ⟨i, _⟩ => hbmTy i
  | _, _ => ⟨S2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_cst_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_3 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_4 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_5 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_6 : Ref sig .tc := ⟨.hbm, 57, rfl⟩
abbrev main_v38 : Ref sig .tc := ⟨.hbm, 58, rfl⟩
abbrev main_v39 : Ref sig .tc := ⟨.hbm, 59, rfl⟩
abbrev main_cst_7 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_8 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_9 : Ref sig .tc := ⟨.hbm, 74, rfl⟩
abbrev main_v52 : Ref sig .tc := ⟨.hbm, 75, rfl⟩
abbrev main_cst_10 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_11 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_12 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_cst_13 : Ref sig .tc := ⟨.hbm, 93, rfl⟩
abbrev main_v67 : Ref sig .tc := ⟨.hbm, 94, rfl⟩
abbrev main_v68 : Ref sig .tc := ⟨.hbm, 95, rfl⟩
abbrev main_cst_14 : Ref sig .tc := ⟨.hbm, 96, rfl⟩
abbrev main_v69 : Ref sig .tc := ⟨.hbm, 97, rfl⟩
abbrev main_cst_15 : Ref sig .tc := ⟨.hbm, 98, rfl⟩
abbrev main_v70 : Ref sig .tc := ⟨.hbm, 99, rfl⟩
abbrev main_values : Ref sig .tc := ⟨.hbm, 100, rfl⟩
abbrev main_indices : Ref sig .tc := ⟨.hbm, 101, rfl⟩
abbrev main_cst_16 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_c : Ref sig .tc := ⟨.hbm, 106, rfl⟩
abbrev main_v74 : Ref sig .tc := ⟨.hbm, 107, rfl⟩
abbrev main_v75 : Ref sig .tc := ⟨.hbm, 108, rfl⟩
abbrev main_c_17 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_c_18 : Ref sig .tc := ⟨.hbm, 113, rfl⟩
abbrev main_v79 : Ref sig .tc := ⟨.hbm, 114, rfl⟩
abbrev main_v80 : Ref sig .tc := ⟨.hbm, 115, rfl⟩
abbrev main_c_19 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_cst_20 : Ref sig .tc := ⟨.hbm, 125, rfl⟩
abbrev main_v89 : Ref sig .tc := ⟨.hbm, 126, rfl⟩
abbrev main_v90 : Ref sig .tc := ⟨.hbm, 127, rfl⟩
abbrev main_cst_21 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_cst_22 : Ref sig .tc := ⟨.hbm, 150, rfl⟩
abbrev main_v112 : Ref sig .tc := ⟨.hbm, 151, rfl⟩
abbrev main_v113 : Ref sig .tc := ⟨.hbm, 152, rfl⟩
abbrev main_cst_23 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_cst_24 : Ref sig .tc := ⟨.hbm, 159, rfl⟩
abbrev main_v119 : Ref sig .tc := ⟨.hbm, 160, rfl⟩
abbrev main_v120 : Ref sig .tc := ⟨.hbm, 161, rfl⟩
abbrev main_cst_25 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_cst_26 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_cst_27 : Ref sig .tc := ⟨.hbm, 179, rfl⟩
abbrev main_v136 : Ref sig .tc := ⟨.hbm, 180, rfl⟩
abbrev main_v137 : Ref sig .tc := ⟨.hbm, 181, rfl⟩
abbrev main_cst_28 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩
abbrev main_v141 : Ref sig .tc := ⟨.hbm, 186, rfl⟩
abbrev main_v142 : Ref sig .tc := ⟨.hbm, 187, rfl⟩
abbrev main_cst_29 : Ref sig .tc := ⟨.hbm, 188, rfl⟩
abbrev main_v143 : Ref sig .tc := ⟨.hbm, 189, rfl⟩
abbrev main_v144 : Ref sig .tc := ⟨.hbm, 190, rfl⟩
abbrev main_cst_30 : Ref sig .tc := ⟨.hbm, 191, rfl⟩
abbrev main_v145 : Ref sig .tc := ⟨.hbm, 192, rfl⟩
abbrev main_v146 : Ref sig .tc := ⟨.hbm, 193, rfl⟩
abbrev main_v147 : Ref sig .tc := ⟨.hbm, 194, rfl⟩
abbrev main_v148 : Ref sig .tc := ⟨.hbm, 195, rfl⟩
abbrev main_cst_31 : Ref sig .tc := ⟨.hbm, 196, rfl⟩
abbrev main_v149 : Ref sig .tc := ⟨.hbm, 197, rfl⟩
abbrev main_v150 : Ref sig .tc := ⟨.hbm, 198, rfl⟩
abbrev main_v151 : Ref sig .tc := ⟨.hbm, 199, rfl⟩
abbrev main_v152 : Ref sig .tc := ⟨.hbm, 200, rfl⟩
abbrev main_v153 : Ref sig .tc := ⟨.hbm, 201, rfl⟩
abbrev main_v154 : Ref sig .tc := ⟨.hbm, 202, rfl⟩
abbrev main_v155 : Ref sig .tc := ⟨.hbm, 203, rfl⟩
abbrev main_v156 : Ref sig .tc := ⟨.hbm, 204, rfl⟩
abbrev main_v157 : Ref sig .tc := ⟨.hbm, 205, rfl⟩
abbrev main_v158 : Ref sig .tc := ⟨.hbm, 206, rfl⟩
abbrev main_v159 : Ref sig .tc := ⟨.hbm, 207, rfl⟩
abbrev main_v160 : Ref sig .tc := ⟨.hbm, 208, rfl⟩
abbrev main_v161 : Ref sig .tc := ⟨.hbm, 209, rfl⟩
abbrev main_v162 : Ref sig .tc := ⟨.hbm, 210, rfl⟩
abbrev main_v163 : Ref sig .tc := ⟨.hbm, 211, rfl⟩
abbrev main_v164 : Ref sig .tc := ⟨.hbm, 212, rfl⟩
abbrev main_v165 : Ref sig .tc := ⟨.hbm, 213, rfl⟩

abbrev nD : Nat := 1
abbrev τ : Topo := Topo.v7x

variable {F : FTy → Type} [FloatOps F]
-- ==== Proof.Rows.lean ====
/-
  The mathematics of one batch row, over the extended reals: the softmax of a row of 128 scores, the facts about it
  that the equation of the two programs needs, the normalisation of a row of 64 entries, and the constants.
  Nothing here names a program.
-/
module

public import Idealize.ShloMosaic.Lib.IdealHost
public import Idealize.ShloMosaic.Lib.Pipeline.ValueKit

@[expose] public section

noncomputable section

namespace Cert.Rows

open Idealize Idealize.ShloMosaic
open scoped BigOperators

/-! ## The constants -/

/-- The pattern of −∞, from which both programs start their maxima, is the least extended real. -/
theorem bits_bot : Ideal.ofBits .f32 0xFF800000#32 = (⊥ : EReal) := by
  simp [Ideal.ofBits, Ideal.ieee]

/-- The fill that the kernel writes over an entry already taken is below zero. -/
theorem bits_fill_neg : Ideal.ofBits .f32 0xBF800000#32 < (0 : EReal) := by
  have h : Ideal.ofBits .f32 0xBF800000#32 = ((-1 : ℝ) : EReal) := by
    simp [Ideal.ofBits, Ideal.ieee, -EReal.coe_mul, -EReal.coe_neg]; norm_num
  rw [h]
  exact_mod_cast (by norm_num : (-1 : ℝ) < 0)

/-- The pattern of 64. -/
theorem bits_64 : Ideal.ofBits .f32 0x42800000#32 = ((64 : ℝ) : EReal) := by
  simp [Ideal.ofBits, Ideal.ieee, -EReal.coe_mul]; norm_num

/-- The pattern of 2048. -/
theorem bits_2048 : Ideal.ofBits .f32 0x45000000#32 = ((2048 : ℝ) : EReal) := by
  simp [Ideal.ofBits, Ideal.ieee, -EReal.coe_mul]; norm_num

/-- The pattern of 2097152, which is 1024 times 2048. -/
theorem bits_2097152 : Ideal.ofBits .f32 0x4A000000#32 = ((2097152 : ℝ) : EReal) := by
  simp [Ideal.ofBits, Ideal.ieee, -EReal.coe_mul]; norm_num

/-- The small constant added under the root and to the sum of the kept weights is a positive real. -/
theorem bits_eps : ∃ r : ℝ, 0 < r ∧ Ideal.ofBits .f32 0x358637BD#32 = (r : EReal) := by
  refine ⟨_, ?_, by simp [Ideal.ofBits, Ideal.ieee, -EReal.coe_mul]; rfl⟩
  norm_num

/-! ## The maximum of a row -/

variable {n : ℕ}

/-- The greatest entry of a row, started from −∞. -/
def peak (x : Fin n → EReal) : EReal := Finset.univ.fold max (Ideal.ofBits .f32 0xFF800000#32) x

/-- Every entry is at most the greatest one. -/
theorem le_peak (x : Fin n → EReal) (s : Fin n) : x s ≤ peak x :=
  (Finset.le_fold_max _).2 (Or.inr ⟨s, Finset.mem_univ s, le_rfl⟩)

/-- A bound of all the entries bounds the greatest one. -/
theorem peak_le (x : Fin n → EReal) (c : EReal) (h : ∀ s, x s ≤ c) : peak x ≤ c :=
  (Finset.fold_max_le _).2 ⟨by rw [bits_bot]; exact bot_le, fun s _ => h s⟩

/-- The greatest entry is attained at the place `k` whose entry bounds all the others. -/
theorem peak_eq_of_le (x : Fin n → EReal) (k : Fin n) (h : ∀ s, x s ≤ x k) : peak x = x k :=
  le_antisymm (peak_le x _ h) (le_peak x k)

/-- The greatest entry is attained. -/
theorem exists_peak [NeZero n] (x : Fin n → EReal) : ∃ k, peak x = x k := by
  obtain ⟨k, hk⟩ := Finite.exists_max x
  exact ⟨k, peak_eq_of_le x k hk⟩

/-- Starting the maximum once more from −∞ changes nothing. -/
theorem max_start_peak (x : Fin n → EReal) : max (Ideal.ofBits .f32 0xFF800000#32) (peak x) = peak x :=
  max_eq_right (by rw [bits_bot]; exact bot_le)

/-- A row whose greatest entry is infinite, of either sign, less that entry, is −∞ throughout. -/
theorem sub_peak_eq_bot (x : Fin n → EReal) (h : peak x = ⊤ ∨ peak x = ⊥) (s : Fin n) : x s - peak x = ⊥ := by
  rcases h with h | h
  · rw [h, sub_eq_add_neg, EReal.neg_top, EReal.add_bot]
  · have hs : x s = ⊥ := le_bot_iff.1 (h ▸ le_peak x s)
    rw [hs, h, sub_eq_add_neg, EReal.bot_add]

/-- Once the greatest entry is taken off a row, taking off the greatest entry of what is left changes nothing. -/
theorem sub_peak_twice [NeZero n] (x : Fin n → EReal) (s : Fin n) :
    (x s - peak x) - peak (fun t => x t - peak x) = x s - peak x := by
  by_cases h : peak x = ⊤ ∨ peak x = ⊥
  · rw [sub_peak_eq_bot x h s, sub_eq_add_neg, EReal.bot_add]
  · push Not at h
    obtain ⟨k, hk⟩ := exists_peak x
    have hz : peak (fun t => x t - peak x) = 0 := by
      have hkz : x k - peak x = 0 := by rw [← hk]; exact EReal.sub_self h.1 h.2
      rw [← hkz]
      refine peak_eq_of_le (fun t => x t - peak x) k fun t => ?_
      exact EReal.sub_le_sub (hk ▸ le_peak x t) le_rfl
    rw [hz, sub_zero]

/-! ## The softmax of a row -/

/-- The softmax of a row: the exponentials of the entries less the greatest one, over their sum. -/
def soft (x : Fin n → EReal) (s : Fin n) : EReal :=
  Ideal.div (Ideal.exp (x s - peak x)) (∑ t, Ideal.exp (x t - peak x))

/-- The softmax of a row from which its greatest entry has been taken off already, that entry started once more from −∞, is the
    softmax of the row. -/
theorem soft_again [NeZero n] (x : Fin n → EReal) (s : Fin n) :
    Ideal.div (Ideal.exp (x s - peak x - max (Ideal.ofBits .f32 0xFF800000#32) (peak fun t => x t - peak x)))
        (∑ t, Ideal.exp (x t - peak x - max (Ideal.ofBits .f32 0xFF800000#32) (peak fun t => x t - peak x)))
      = soft x s := by
  simp only [max_start_peak, sub_peak_twice]
  rfl

/-- An exponential is not negative. -/
theorem exp_nonneg (x : EReal) : 0 ≤ Ideal.exp x := by
  induction x with
  | bot => exact le_rfl
  | top => exact le_top
  | coe r => exact EReal.coe_nonneg.2 (Real.exp_pos r).le

/-- Either the softmax of a row is −∞ throughout, which happens when the row's greatest entry is infinite, or none of its entries
    is negative. -/
theorem soft_cases [NeZero n] (x : Fin n → EReal) : (∀ s, soft x s = ⊥) ∨ ∀ s, 0 ≤ soft x s := by
  by_cases h : (∑ t, Ideal.exp (x t - peak x)) = 0
  · left
    intro s
    have hs : Ideal.exp (x s - peak x) = 0 :=
      (Finset.sum_eq_zero_iff_of_nonneg fun t _ => exp_nonneg _).1 h s (Finset.mem_univ s)
    rw [soft, Ideal.div, if_pos h, hs, if_neg (lt_irrefl _)]
  · right
    intro s
    rw [soft, Ideal.div, if_neg h]
    exact mul_nonneg (exp_nonneg _) (EReal.inv_nonneg_of_nonneg (Finset.sum_nonneg fun t _ => exp_nonneg _))

/-! ## The normalisation of a row -/

/-- The mean of a row of 64 entries. -/
def mean (y : Fin 64 → EReal) : EReal := Ideal.div (∑ d, y d) (Ideal.ofBits .f32 0x42800000#32)

/-- The variance of a row of 64 entries, with the small constant that keeps it from zero. -/
def spread (y : Fin 64 → EReal) : EReal :=
  Ideal.div (∑ d, (y d - mean y) * (y d - mean y)) (Ideal.ofBits .f32 0x42800000#32) + Ideal.ofBits .f32 0x358637BD#32

/-- A row of 64 entries less its mean, over the root of its variance, scaled by `g` and shifted by `b`. -/
def norm (y g b : Fin 64 → EReal) (d : Fin 64) : EReal :=
  (y d - mean y) * Ideal.rsqrt (spread y) * g d + b d

/-- A square is not negative, at the infinities too. -/
theorem sq_nonneg' (a : EReal) : 0 ≤ a * a := by
  rcases le_total 0 a with h | h
  · exact mul_nonneg h h
  · have : a * a = -a * -a := by rw [neg_mul_neg]
    rw [this]
    exact mul_nonneg (EReal.neg_nonneg.2 h) (EReal.neg_nonneg.2 h)

/-- The variance with its constant is positive. -/
theorem spread_pos (y : Fin 64 → EReal) : 0 < spread y := by
  obtain ⟨r, hr, he⟩ := bits_eps
  have hd : 0 ≤ Ideal.div (∑ d, (y d - mean y) * (y d - mean y)) (Ideal.ofBits .f32 0x42800000#32) := by
    rw [bits_64, Ideal.div_coe (by norm_num)]
    exact mul_nonneg (Finset.sum_nonneg fun d _ => sq_nonneg' _) (EReal.coe_nonneg.2 (by norm_num))
  unfold spread
  rw [he]
  exact lt_of_lt_of_le (EReal.coe_pos.2 hr) (le_add_of_nonneg_left hd)

/-- Over a positive number's root is times its reciprocal root, at `⊤` too. -/
theorem div_sqrt (a : EReal) {v : EReal} (hv : 0 < v) : Ideal.div a (Ideal.sqrt v) = a * Ideal.rsqrt v := by
  induction v with
  | bot => exact absurd hv (by simp)
  | top =>
    show Ideal.div a ⊤ = a * 0
    rw [Ideal.div, if_neg (by simp), EReal.inv_top]
  | coe r =>
    have hr : 0 < r := EReal.coe_pos.1 hv
    have hs : Real.sqrt r ≠ 0 := (Real.sqrt_pos.2 hr).ne'
    have h1 : Ideal.sqrt (r : EReal) = (Real.sqrt r : EReal) := if_neg hr.le.not_gt
    have h2 : Ideal.rsqrt (r : EReal) = ((Real.sqrt r)⁻¹ : ℝ) := by
      show (if r < 0 then (⊥ : EReal) else if r = 0 then ⊤ else ((Real.sqrt r)⁻¹ : ℝ)) = _
      rw [if_neg hr.le.not_gt, if_neg hr.ne']
    rw [h1, h2, Ideal.div_coe hs, one_div]

/-! ## Sums over the batch -/

/-- A sum over 2048 rows is the sum over 32 blocks of the sums over a block's 64 rows. -/
theorem sum_blocks (f : Fin 2048 → EReal) :
    ∑ b, f b = ∑ t : Fin 32, ∑ r : Fin 64, f ⟨64 * t.val + r.val, by omega⟩ := by
  rw [← Fintype.sum_prod_type']
  refine (Fintype.sum_equiv (finProdFinEquiv (m := 32) (n := 64)) _ _ fun p => ?_).symm
  congr 1
  apply Fin.ext
  simp [finProdFinEquiv]
  omega

end Cert.Rows

end
-- ==== Proof.TopThree.lean ====
/-
  The three greatest weights of a row of 128: the kernel takes them by three rounds of "the first place that holds the
  greatest entry, then a negative fill written there"; the reference takes the first three places of a stable descending sort.
  On weights that are not negative the two name the same three places.
-/
module

public import proofs.«01_k».proof.Proof.Rows
public import Idealize.ShloMosaic.Lib.SortPrefix
public import Idealize.ShloMosaic.Lib.WordCmp

@[expose] public section

noncomputable section

namespace Cert.TopThree

open Idealize Idealize.ShloMosaic Cert.Rows
open scoped BigOperators

/-! ## The kernel's rounds -/

/-- A row has a first place among those that hold its greatest entry. -/
theorem exists_first (x : Fin 128 → EReal) : ∃ k, (∀ j, x j ≤ x k) ∧ ∀ j, x j = x k → k ≤ j := by
  obtain ⟨m, hm⟩ := Finite.exists_max x
  have hne : (Finset.univ.filter fun j => x j = x m).Nonempty := ⟨m, by simp⟩
  refine ⟨(Finset.univ.filter fun j => x j = x m).min' hne, ?_, ?_⟩
  · have h := (Finset.mem_filter.1 ((Finset.univ.filter fun j => x j = x m).min'_mem hne)).2
    intro j
    rw [h]
    exact hm j
  · have h := (Finset.mem_filter.1 ((Finset.univ.filter fun j => x j = x m).min'_mem hne)).2
    intro j hj
    exact Finset.min'_le _ _ (Finset.mem_filter.2 ⟨Finset.mem_univ j, hj.trans h⟩)

/-- The first place that holds a row's greatest entry. -/
def first (x : Fin 128 → EReal) : Fin 128 := (exists_first x).choose

/-- No entry exceeds the one at `first`. -/
theorem le_first (x : Fin 128 → EReal) (j : Fin 128) : x j ≤ x (first x) := (exists_first x).choose_spec.1 j

/-- No earlier place holds the entry at `first`. -/
theorem first_le (x : Fin 128 → EReal) (j : Fin 128) (h : x j = x (first x)) : first x ≤ j :=
  (exists_first x).choose_spec.2 j h

/-- The greatest entry is the one at `first`. -/
theorem peak_eq_first (x : Fin 128 → EReal) : peak x = x (first x) := peak_eq_of_le x _ (le_first x)

/-- The kernel's word for the first place of the greatest entry: the signed minimum of the places that hold it. -/
def pick (x : Fin 128 → EReal) : BitVec 32 :=
  Finset.univ.fold IntOp.minsi 2147483647#32 fun j : Fin 128 => if x j = peak x then BitVec.ofNat 32 j.val else 128#32

/-- The signed minimum of two words is one of them, and at most each. -/
theorem minsi_spec (a b : BitVec 32) :
    (IntOp.minsi a b = a ∨ IntOp.minsi a b = b) ∧ (IntOp.minsi a b).toInt ≤ a.toInt ∧ (IntOp.minsi a b).toInt ≤ b.toInt := by
  unfold IntOp.minsi
  simp only [BitVec.slt_iff_toInt_lt, BitVec.sle_iff_toInt_le]
  split <;> simp_all <;> omega

/-- The signed minimum of a family of words is one of them or the word it started from, and at most each of them and that word. -/
theorem fold_minsi_spec (c : BitVec 32) (f : Fin 128 → BitVec 32) (S : Finset (Fin 128)) :
    (S.fold IntOp.minsi c f = c ∨ ∃ j ∈ S, S.fold IntOp.minsi c f = f j)
      ∧ (S.fold IntOp.minsi c f).toInt ≤ c.toInt ∧ ∀ j ∈ S, (S.fold IntOp.minsi c f).toInt ≤ (f j).toInt := by
  classical
  induction S using Finset.induction_on with
  | empty => simp
  | insert a S ha ih =>
    rw [Finset.fold_insert ha]
    obtain ⟨h1, h2, h3⟩ := minsi_spec (f a) (S.fold IntOp.minsi c f)
    obtain ⟨i1, i2, i3⟩ := ih
    refine ⟨?_, h3.trans i2, ?_⟩
    · rcases h1 with h | h
      · exact Or.inr ⟨a, Finset.mem_insert_self a S, h⟩
      · rw [h]
        rcases i1 with i | ⟨j, hj, i⟩
        · exact Or.inl i
        · exact Or.inr ⟨j, Finset.mem_insert_of_mem hj, i⟩
    · intro j hj
      rcases Finset.mem_insert.1 hj with rfl | hj
      · exact h2
      · exact h3.trans (i3 j hj)

/-- A place's word read signed is the place. -/
theorem toInt_place (j : Fin 128) : (BitVec.ofNat 32 j.val).toInt = (j.val : ℤ) := by
  have := j.isLt
  rw [BitVec.toInt_eq_toNat_cond, BitVec.toNat_ofNat]
  split <;> omega

/-- The kernel's word for the first place of the greatest entry is that place's. -/
theorem pick_eq (x : Fin 128 → EReal) : pick x = BitVec.ofNat 32 (first x).val := by
  have hf := (first x).isLt
  obtain ⟨h1, h3⟩ : (pick x = 2147483647#32 ∨ ∃ j, pick x = if x j = peak x then BitVec.ofNat 32 j.val else 128#32)
      ∧ ∀ j, (pick x).toInt ≤ (if x j = peak x then BitVec.ofNat 32 j.val else 128#32).toInt := by
    have h := fold_minsi_spec 2147483647#32 (fun j : Fin 128 => if x j = peak x then BitVec.ofNat 32 j.val else 128#32) Finset.univ
    exact ⟨h.1.imp id fun ⟨j, _, e⟩ => ⟨j, e⟩, fun j => h.2.2 j (Finset.mem_univ j)⟩
  have hk := h3 (first x)
  rw [if_pos (peak_eq_first x).symm, toInt_place] at hk
  clear h3
  generalize pick x = p at h1 hk ⊢
  rcases h1 with h | ⟨j, h⟩
  · have hc : (2147483647#32 : BitVec 32).toInt = 2147483647 := by decide
    rw [h, hc] at hk
    omega
  · by_cases e : x j = peak x
    · rw [if_pos e] at h
      rw [h, toInt_place] at hk
      have hj := first_le x j (e.trans (peak_eq_first x))
      rw [h, show j = first x from le_antisymm (by exact_mod_cast hk) hj]
    · have hc : (128#32 : BitVec 32).toInt = 128 := by decide
      rw [if_neg e] at h
      rw [h, hc] at hk
      omega

/-- A row after a round: the fill at the picked place. -/
def strike (x : Fin 128 → EReal) (j : Fin 128) : EReal :=
  Scalar.select (IntOp.cmpi .eq (BitVec.ofNat 32 j.val) (pick x)) (Ideal.ofBits .f32 0xBF800000#32) (x j)

/-- The bit that says place `j` is the one a round picks. -/
theorem cmpi_pick (x : Fin 128 → EReal) (j : Fin 128) :
    IntOp.cmpi .eq (BitVec.ofNat 32 j.val) (pick x) = BitVec.ofBool (decide (j = first x)) := by
  have hj := j.isLt
  have hf := (first x).isLt
  rw [pick_eq]
  unfold IntOp.cmpi
  congr 1
  rw [Bool.eq_iff_iff]
  simp only [beq_iff_eq, decide_eq_true_eq]
  refine ⟨fun h => Fin.ext ?_, fun h => by rw [h]⟩
  have := congrArg BitVec.toInt h
  rw [toInt_place, toInt_place] at this
  exact_mod_cast this

/-- A row after a round, at a place. -/
theorem strike_eq (x : Fin 128 → EReal) (j : Fin 128) :
    strike x j = if j = first x then Ideal.ofBits .f32 0xBF800000#32 else x j := by
  unfold strike
  rw [cmpi_pick]
  by_cases h : j = first x <;> simp [h, Scalar.select]

/-- The places of the three rounds. -/
def place (w : Fin 128 → EReal) : Fin 3 → Fin 128 :=
  ![first w, first (strike w), first (strike (strike w))]

/-- A row's weights at the three places, zero elsewhere. -/
def sparse (w : Fin 128 → EReal) (j : Fin 128) : EReal := if ∃ r, place w r = j then w j else 0

/-- The disjunction of three bits, from a zero bit. -/
theorem ori_three (a b c : Bool) :
    IntOp.ori (IntOp.ori (IntOp.ori 0#1 (BitVec.ofBool a)) (BitVec.ofBool b)) (BitVec.ofBool c) = BitVec.ofBool (a || b || c) := by
  cases a <;> cases b <;> cases c <;> rfl

/-- What the kernel's three rounds select. -/
theorem sparse_eq (w : Fin 128 → EReal) (j : Fin 128) :
    Scalar.select (IntOp.ori (IntOp.ori (IntOp.ori 0#1 (IntOp.cmpi .eq (BitVec.ofNat 32 j.val) (pick w)))
        (IntOp.cmpi .eq (BitVec.ofNat 32 j.val) (pick (strike w))))
        (IntOp.cmpi .eq (BitVec.ofNat 32 j.val) (pick (strike (strike w))))) (w j) 0 = sparse w j := by
  simp only [cmpi_pick]
  rw [ori_three, WordCmp.select_ofBool]
  unfold sparse place
  generalize first (strike (strike w)) = c
  generalize first (strike w) = b
  generalize first w = a
  refine if_congr ?_ rfl rfl
  rw [Fin.exists_fin_succ, Fin.exists_fin_two, Bool.or_eq_true, Bool.or_eq_true, decide_eq_true_eq, decide_eq_true_eq,
    decide_eq_true_eq, or_assoc]
  exact or_congr eq_comm (or_congr eq_comm eq_comm)

/-! ## The reference's stable sort -/

/-- Sorting a list stably asks of its relation only how an element stands to those after it. -/
theorem stableSort_congr_later {ι : Type} (R R' : ι → ι → Bool) (l : List ι) (h : l.Pairwise fun a b => R b a = R' b a) :
    stableSort R l = stableSort R' l := by
  induction l with
  | nil => rfl
  | cons a l ih =>
    rw [List.pairwise_cons] at h
    unfold stableSort
    rw [ih h.2]
    exact insertBefore_congr R R' a _ fun b hb => h.1 b ((perm_stableSort R' l).mem_iff.1 hb)

/-- Place `a` is before place `b` in a stable descending sort: its weight is greater, or the weights are equal and it is earlier. -/
def before (w : Fin 128 → EReal) (a b : Fin 128) : Bool :=
  decide (w b < w a) || (decide (w a = w b) && decide (a < b))

/-- That order is strict and total. -/
theorem before_total (w : Fin 128 → EReal) : StrictTotalBefore (before w) :=
  StrictTotalBefore.of_key_then_position (fun a b : EReal => decide (b < a)) w (fun a => by simp)
    (fun a b c h h' => by
      simp only [decide_eq_true_eq] at h h' ⊢
      exact h'.trans h)
    (fun a b => by
      simp only [decide_eq_true_eq]
      rcases lt_trichotomy a b with h | h | h
      exacts [Or.inr (Or.inr h), Or.inr (Or.inl h), Or.inl h])

/-- The place that a stable descending sort of the weights puts at rank `r`. -/
def ranked (w : Fin 128 → EReal) (r : Fin 3) : Fin 128 :=
  sortedFrom (fun a b => FloatOps.cmpfTotal (F := Ideal) (φ := .f32) .gt (w a) (w b) == 1#1) (r.castLE (by omega))

/-- The comparator alone and the comparator with ties broken by place sort the places alike. -/
theorem sortedFrom_gt (w : Fin 128 → EReal) :
    sortedFrom (fun a b => FloatOps.cmpfTotal (F := Ideal) (φ := .f32) .gt (w a) (w b) == 1#1) = sortedFrom (before w) := by
  have h : sortPositions 128 (fun a b => FloatOps.cmpfTotal (F := Ideal) (φ := .f32) .gt (w a) (w b) == 1#1)
      = sortPositions 128 (before w) := by
    refine stableSort_congr_later _ _ _ ((List.pairwise_lt_finRange 128).imp fun {a b} hab => ?_)
    have hn : decide (b < a) = false := decide_eq_false (not_lt.2 hab.le)
    unfold before
    rw [hn, Bool.and_false, Bool.or_false]
    show (BitVec.ofBool (decide (w a < w b)) == 1#1) = _
    by_cases e : w a < w b <;> simp [e]
  funext k
  unfold sortedFrom
  generalize_proofs p q
  revert p
  rw [h]
  intro p
  rfl

/-- After a round, the places not struck keep their weights. -/
theorem strike_of_ne (x : Fin 128 → EReal) {j : Fin 128} (h : j ≠ first x) : strike x j = x j := by
  rw [strike_eq, if_neg h]

/-- After a round, the struck place holds a negative fill. -/
theorem strike_first (x : Fin 128 → EReal) : strike x (first x) = Ideal.ofBits .f32 0xBF800000#32 := by
  rw [strike_eq, if_pos rfl]

/-- A place of a round whose entry is not negative, when some entry of the row is not. -/
theorem first_nonneg (x : Fin 128 → EReal) (j : Fin 128) (h : 0 ≤ x j) : 0 ≤ x (first x) := h.trans (le_first x j)

/-- On weights that are not negative the three rounds' places are the first three of the stable descending sort. -/
theorem ranked_eq_place (w : Fin 128 → EReal) (hw : ∀ j, 0 ≤ w j) (r : Fin 3) : ranked w r = place w r := by
  have hneg := bits_fill_neg
  -- the first place
  set a := first w with ha
  -- an entry other than the first is not struck yet, so the second place is another one
  have hb0 : ∃ j, j ≠ a := by
    by_cases h : a = 0
    · exact ⟨1, by rw [h]; decide⟩
    · exact ⟨0, fun e => h e.symm⟩
  obtain ⟨j, hj⟩ := hb0
  have hb1 : 0 ≤ strike w (first (strike w)) := first_nonneg _ j (by rw [strike_of_ne w hj]; exact hw j)
  set b := first (strike w) with hb
  have hba : b ≠ a := fun e => by
    rw [e, strike_first] at hb1
    exact absurd hb1 (not_le.2 hneg)
  have hc0 : ∃ j, j ≠ a ∧ j ≠ b := by
    by_cases h0 : (0 : Fin 128) ≠ a ∧ (0 : Fin 128) ≠ b
    · exact ⟨0, h0⟩
    · by_cases h1 : (1 : Fin 128) ≠ a ∧ (1 : Fin 128) ≠ b
      · exact ⟨1, h1⟩
      · refine ⟨2, ?_, ?_⟩ <;> omega
  obtain ⟨i, hia, hib⟩ := hc0
  have hc1 : 0 ≤ strike (strike w) (first (strike (strike w))) :=
    first_nonneg _ i (by rw [strike_of_ne _ hib, strike_of_ne w hia]; exact hw i)
  set c := first (strike (strike w)) with hc
  have hcb : c ≠ b := fun e => by
    rw [e, strike_first] at hc1
    exact absurd hc1 (not_le.2 hneg)
  have hca : c ≠ a := fun e => by
    rw [e, strike_of_ne _ (e ▸ hcb), strike_first] at hc1
    exact absurd hc1 (not_le.2 hneg)
  -- what each place dominates
  have da : ∀ p, before w p a = false := fun p => by
    unfold before
    rw [decide_eq_false (not_lt.2 (le_first w p)), Bool.false_or, Bool.and_eq_false_iff]
    by_cases e : w p = w a
    · exact Or.inr (decide_eq_false (not_lt.2 (first_le w p e)))
    · exact Or.inl (decide_eq_false e)
  have db : ∀ p, p ≠ a → before w p b = false := fun p hp => by
    have h1 := le_first (strike w) p
    have h2 := first_le (strike w) p
    rw [← hb, strike_of_ne w hp, strike_of_ne w hba] at h1 h2
    unfold before
    rw [decide_eq_false (not_lt.2 h1), Bool.false_or, Bool.and_eq_false_iff]
    by_cases e : w p = w b
    · exact Or.inr (decide_eq_false (not_lt.2 (h2 e)))
    · exact Or.inl (decide_eq_false e)
  have dc : ∀ p, p ≠ a → p ≠ b → before w p c = false := fun p hp hq => by
    have h1 := le_first (strike (strike w)) p
    have h2 := first_le (strike (strike w)) p
    rw [← hc, strike_of_ne _ hq, strike_of_ne w hp, strike_of_ne _ hcb, strike_of_ne w hca] at h1 h2
    unfold before
    rw [decide_eq_false (not_lt.2 h1), Bool.false_or, Bool.and_eq_false_iff]
    by_cases e : w p = w c
    · exact Or.inr (decide_eq_false (not_lt.2 (h2 e)))
    · exact Or.inl (decide_eq_false e)
  have hpl : place w = ![a, b, c] := rfl
  unfold ranked
  rw [sortedFrom_gt, hpl]
  refine (before_total w).sortedFrom_eq_of_prefix (by omega) ![a, b, c] ?_ ?_ ?_ r
  · intro x y hxy
    fin_cases x <;> fin_cases y <;> simp_all
  · intro x y hxy
    fin_cases x <;> fin_cases y <;> simp at hxy ⊢
    exacts [da _, da _, db _ hca]
  · intro x p hp
    have h0 := (hp 0).symm
    have h1 := (hp 1).symm
    fin_cases x
    exacts [da p, db p h0, dc p h0 h1]

/-! ## The weights over their sum -/

/-- The weights at three places over their sum, which a small constant keeps from zero. -/
def share (v : Fin 128 → EReal) (j : Fin 128) : EReal :=
  Ideal.div (v j) ((∑ k, v k) + Ideal.ofBits .f32 0x358637BD#32)

/-- The reference's weights at the first three places of its sort, zero elsewhere. -/
def rankedSparse (w : Fin 128 → EReal) (j : Fin 128) : EReal := if ∃ r, ranked w r = j then w j else 0

/-- Weights that are −∞ at some place, their sum therefore −∞ too, have no share. -/
theorem share_of_bot (v : Fin 128 → EReal) (k : Fin 128) (hk : v k = ⊥) (j : Fin 128) : share v j = 0 := by
  have hs : (∑ k, v k) = ⊥ := by
    rw [← Finset.add_sum_erase _ _ (Finset.mem_univ k), hk, EReal.bot_add]
  unfold share
  rw [hs, EReal.bot_add, Ideal.div, if_neg EReal.bot_ne_zero, EReal.inv_bot, mul_zero]

/-- On a softmax's weights the reference's shares are the kernel's: the places agree when no weight is negative, and when the
    weights are −∞ throughout every share is zero on both sides. -/
theorem share_eq (x : Fin 128 → EReal) (j : Fin 128) : share (rankedSparse (soft x)) j = share (sparse (soft x)) j := by
  rcases soft_cases x with h | h
  · rw [share_of_bot _ (ranked (soft x) 0) (by rw [rankedSparse, if_pos ⟨0, rfl⟩, h]),
      share_of_bot _ (place (soft x) 0) (by rw [sparse, if_pos ⟨0, rfl⟩, h])]
  · have e : rankedSparse (soft x) = sparse (soft x) := by
      funext k
      unfold rankedSparse sparse
      simp only [ranked_eq_place _ h]
    rw [e]

end Cert.TopThree

end
-- ==== Proof.Cell.lean ====
module
public import proofs.«01_k».proof.Proof.TopThree
@[expose] public section
/-! What both programs compute for one row of the batch, from the row's slices of the arrays. -/
noncomputable section
namespace Cert.Cell
open Idealize Idealize.ShloMosaic Cert.Rows Cert.TopThree

/-- The similarity of a slot's memory (real part `p`, imaginary part `q`) to the state (`a`, `b`). -/
def scores (p q : Fin 128 → Fin 64 → EReal) (a b : Fin 64 → EReal) (s : Fin 128) : EReal := ∑ x, (p s x * a x + q s x * b x)

/-- What is read from one part of the memory at one lane: the slots weighted by the softmax of the similarities. -/
def readAt (sc : Fin 128 → EReal) (p : Fin 128 → EReal) : EReal := ∑ s, p s * soft sc s

/-- The logits of the write weights. -/
def logits (q : Fin 128 → EReal) (A : Fin 128 → Fin 128 → EReal) (c : Fin 128 → EReal) (s : Fin 128) : EReal := (∑ x, q x * A x s) + c s

/-- The write gate. -/
def gate (q g : Fin 128 → EReal) (c : EReal) : EReal := Ideal.logistic ((∑ x, q x * g x) + c)

/-- The entropy term of a row of logits, before its sign. -/
def surprise (l : Fin 128 → EReal) : EReal := ∑ s, soft l s * Ideal.log (soft l s + Ideal.ofBits .f32 0x2EDBE6FF#32)

/-- One slot's updated memory: moved towards the state by `e`, squashed, layer-normalised. -/
def updated (e : EReal) (p a g b : Fin 64 → EReal) (d : Fin 64) : EReal :=
  norm (fun x => Ideal.tanh (p x + e * (a x - p x))) g b d

/-- How far slot `s` moves. -/
def step (q g : Fin 128 → EReal) (c : EReal) (l : Fin 128 → EReal) (s : Fin 128) : EReal :=
  gate q g c * share (sparse (soft l)) s

/-- One of two, by a leading coordinate. -/
def pick2 {α : Type} (g : Fin 2) (a b : α) : α := if g = 0 then a else b

/-- The first of the two. -/
theorem pick2_zero {α : Type} (a b : α) : pick2 0 a b = a := if_pos rfl

/-- The second of the two. -/
theorem pick2_one {α : Type} (a b : α) : pick2 1 a b = b := if_neg (by decide)

end Cert.Cell
end
-- ==== Proof.KernelBlock.lean ====
module
public import proofs.«01_k».proof.Proof.Cell
public import proofs.«01_k».proof.Proof.Gen.KernelIdeal.Frame
public import Idealize.ShloMosaic.Lib.Pipeline.ValueKit
public import Idealize.ShloMosaic.Lib.Claim
@[expose] public section
set_option maxRecDepth 16384
/-! What one grid point leaves in its three output blocks, from the blocks it reads. -/
noncomputable section
namespace Cert.KernelBlock
open Idealize Idealize.ShloMosaic Idealize.ShloMosaic.Pipeline Cert.KernelIdeal
open Cert.KernelIdeal.Gen Cert.Cell Cert.Rows Cert.TopThree

/-- Row `r`'s similarities in a block. -/
def bscores (x0 x1 : Vec Ideal S64x64 .f32) (x3 x4 : Vec Ideal S64x128x64 .f32) (r : Fin 64) : Fin 128 → EReal :=
  scores (fun s x => x3 (ix3 r s x)) (fun s x => x4 (ix3 r s x)) (fun x => x0 (ix2 r x)) (fun x => x1 (ix2 r x))

/-- Row `r`'s logits in a block. -/
def blogits (x2 : Vec Ideal S64x128 .f32) (x5 : Vec Ideal S128x128 .f32) (x6 : Vec Ideal S1x128 .f32) (r : Fin 64) : Fin 128 → EReal :=
  logits (fun x => x2 (ix2 r x)) (fun x s => x5 (ix2 x s)) (fun s => x6 (ix2 0 s))

/-- How far slot `s` of row `r` moves, in a block. -/
def bstep (x2 : Vec Ideal S64x128 .f32) (x5 : Vec Ideal S128x128 .f32) (x6 x7 : Vec Ideal S1x128 .f32) (x8 : Vec Ideal S1x1 .f32)
    (r : Fin 64) (s : Fin 128) : EReal :=
  step (fun x => x2 (ix2 r x)) (fun x => x7 (ix2 0 x)) (x8 (ix2 0 0)) (blogits x2 x5 x6 r) s

/-- The read's weights. -/
theorem pay4 (x3 x4 : Vec Ideal S64x128x64 .f32) (x0 x1 : Vec Ideal S64x64 .f32) (r : Fin 64) (s : Fin 128) (z : Fin 1) :
    k0_pay4 x3 x4 x0 x1 (ix3 r s z) = soft (bscores x0 x1 x3 x4 r) s := by
  unfold k0_pay4 k0_pay2 k0_pay3
  pointwise []
  rfl

/-- The real part of the read. -/
theorem pay5 (x3 x4 : Vec Ideal S64x128x64 .f32) (x0 x1 : Vec Ideal S64x64 .f32) (g : Fin 1) (r d : Fin 64) :
    k0_pay5 x3 x4 x0 x1 (ix3 g r d) = readAt (bscores x0 x1 x3 x4 r) (fun s => x3 (ix3 r s d)) := by
  unfold k0_pay5
  pointwise []
  simp only [pay4]
  rfl

/-- The imaginary part of the read. -/
theorem pay6 (x3 x4 : Vec Ideal S64x128x64 .f32) (x0 x1 : Vec Ideal S64x64 .f32) (g : Fin 1) (r d : Fin 64) :
    k0_pay6 x3 x4 x0 x1 (ix3 g r d) = readAt (bscores x0 x1 x3 x4 r) (fun s => x4 (ix3 r s d)) := by
  unfold k0_pay6
  pointwise []
  simp only [pay4]
  rfl

/-- The gate. -/
theorem pay8 (x2 : Vec Ideal S64x128 .f32) (x7 : Vec Ideal S1x128 .f32) (x8 : Vec Ideal S1x1 .f32) (r : Fin 64) (z : Fin 1) :
    k0_pay8 x2 x7 x8 (ix2 r z) = gate (fun x => x2 (ix2 r x)) (fun x => x7 (ix2 0 x)) (x8 (ix2 0 0)) := by
  unfold k0_pay8 k0_pay7
  pointwise []
  rfl

/-- The write weights. -/
theorem pay9 (x2 : Vec Ideal S64x128 .f32) (x5 : Vec Ideal S128x128 .f32) (x6 : Vec Ideal S1x128 .f32) (r : Fin 64) (s : Fin 128) :
    k0_pay9 x2 x5 x6 (ix2 r s) = soft (blogits x2 x5 x6 r) s := by
  unfold k0_pay9 k0_pay7
  pointwise []
  rfl

/-- The block's share of the entropy, in every entry. -/
theorem pay10 (x2 : Vec Ideal S64x128 .f32) (x5 : Vec Ideal S128x128 .f32) (x6 : Vec Ideal S1x128 .f32) (u : Fin 8) (v : Fin 128) :
    k0_pay10 x2 x5 x6 (ix2 u v)
      = Ideal.div (∑ r : Fin 64, (0 - surprise (blogits x2 x5 x6 r))) (Ideal.ofBits .f32 1241513984#32) := by
  unfold k0_pay10
  pointwise []
  simp only [pay9, Fin.sum_univ_one]
  rfl

/-- The three places kept. -/
theorem pay11 (w : FVec Ideal S64x128 .f32) (r : Fin 64) (s : Fin 128) :
    k0_pay11 w (ix2 r s) = sparse (fun x => w (ix2 r x)) s := by
  unfold k0_pay11
  pointwise []
  exact sparse_eq (fun x => w (ix2 r x)) s

/-- Their sum. -/
theorem pay12 (w : FVec Ideal S64x128 .f32) (r : Fin 64) (z : Fin 1) :
    k0_pay12 w (ix2 r z) = ∑ s, sparse (fun x => w (ix2 r x)) s := by
  unfold k0_pay12
  pointwise []
  simp only [pay11]

/-- How far a slot moves. -/
theorem pay13 (x2 : Vec Ideal S64x128 .f32) (x5 : Vec Ideal S128x128 .f32) (x6 x7 : Vec Ideal S1x128 .f32) (x8 : Vec Ideal S1x1 .f32)
    (r : Fin 64) (s : Fin 128) (z : Fin 1) :
    k0_pay13 (k0_pay8 x2 x7 x8) (k0_pay11 (k0_pay9 x2 x5 x6)) (k0_pay12 (k0_pay9 x2 x5 x6)) (ix3 r s z) = bstep x2 x5 x6 x7 x8 r s := by
  unfold k0_pay13
  pointwise []
  simp only [pay8, pay11, pay12, pay9]
  rfl

/-- The real part of the updated memory. -/
theorem pay14 (x3 : Vec Ideal S64x128x64 .f32) (x0 : Vec Ideal S64x64 .f32) (x2 : Vec Ideal S64x128 .f32) (x5 : Vec Ideal S128x128 .f32)
    (x6 x7 : Vec Ideal S1x128 .f32) (x8 : Vec Ideal S1x1 .f32) (x9 x10 : Vec Ideal S1x64 .f32) (g : Fin 1) (r : Fin 64) (s : Fin 128) (d : Fin 64) :
    k0_pay14 x3 (k0_pay2 x0) (k0_pay8 x2 x7 x8) (k0_pay11 (k0_pay9 x2 x5 x6)) (k0_pay12 (k0_pay9 x2 x5 x6)) x9 x10 (ix4 g r s d)
      = updated (bstep x2 x5 x6 x7 x8 r s) (fun x => x3 (ix3 r s x)) (fun x => x0 (ix2 r x)) (fun x => x9 (ix2 0 x)) (fun x => x10 (ix2 0 x)) d := by
  unfold k0_pay14 k0_pay2
  pointwise []
  simp only [pay13]
  rfl

/-- The imaginary part of the updated memory. -/
theorem pay1 (x4 : Vec Ideal S64x128x64 .f32) (x1 : Vec Ideal S64x64 .f32) (x2 : Vec Ideal S64x128 .f32) (x5 : Vec Ideal S128x128 .f32)
    (x6 x7 : Vec Ideal S1x128 .f32) (x8 : Vec Ideal S1x1 .f32) (x11 x12 : Vec Ideal S1x64 .f32) (g : Fin 1) (r : Fin 64) (s : Fin 128) (d : Fin 64) :
    k0_pay1 x4 (k0_pay15 x4 (k0_pay3 x1)) (k0_pay16 (k0_pay8 x2 x7 x8) (k0_pay11 (k0_pay9 x2 x5 x6)) (k0_pay12 (k0_pay9 x2 x5 x6))) x11 x12 (ix4 g r s d)
      = updated (bstep x2 x5 x6 x7 x8 r s) (fun x => x4 (ix3 r s x)) (fun x => x1 (ix2 r x)) (fun x => x11 (ix2 0 x)) (fun x => x12 (ix2 0 x)) d := by
  unfold k0_pay1 k0_pay15 k0_pay3 k0_pay16
  pointwise []
  simp only [pay13]
  rfl

/-- The block of the read: leading coordinate 0 the real part, 1 the imaginary part. -/
theorem out13 (x0 x1 : Vec Ideal S64x64 .f32) (x2 : Vec Ideal S64x128 .f32) (x3 x4 : Vec Ideal S64x128x64 .f32) (x5 : Vec Ideal S128x128 .f32)
    (x6 x7 : Vec Ideal S1x128 .f32) (x8 : Vec Ideal S1x1 .f32) (x9 x10 x11 x12 : Vec Ideal S1x64 .f32)
    (g : Fin 2) (r d : Fin 64) :
    out0_13 x0 x1 x2 x3 x4 x5 x6 x7 x8 x9 x10 x11 x12 (ix3 g r d)
      = readAt (bscores x0 x1 x3 x4 r) (fun s => pick2 g x3 x4 (ix3 r s d)) := by
  unfold out0_13
  rw [View.ld_unit_lit inb_S64x128x64_S64x128x64_0_0_0 x3 (by decide), View.ld_unit_lit inb_S64x128x64_S64x128x64_0_0_0 x4 (by decide),
    View.ld_unit_lit inb_S64x64_S64x64_0_0 x0 (by decide), View.ld_unit_lit inb_S64x64_S64x64_0_0 x1 (by decide)]
  canon_tiles x h
  · idx_vars x
    obtain rfl := Fin.ext h1
    obtain rfl := Fin.ext h2
    obtain rfl : g = 1 := Fin.ext (by show g.val = 1; omega)
    rw [pay6]
    rfl
  · idx_vars x
    obtain rfl := Fin.ext h1
    obtain rfl := Fin.ext h2
    obtain rfl : g = 0 := Fin.ext (by show g.val = 0; omega)
    rw [pay5]
    rfl

/-- The block of the updated memory: leading coordinate 0 the real part, 1 the imaginary part. -/
theorem out14 (x0 x1 : Vec Ideal S64x64 .f32) (x2 : Vec Ideal S64x128 .f32) (x3 x4 : Vec Ideal S64x128x64 .f32) (x5 : Vec Ideal S128x128 .f32)
    (x6 x7 : Vec Ideal S1x128 .f32) (x8 : Vec Ideal S1x1 .f32) (x9 x10 x11 x12 : Vec Ideal S1x64 .f32)
    (g : Fin 2) (r : Fin 64) (s : Fin 128) (d : Fin 64) :
    out0_14 x0 x1 x2 x3 x4 x5 x6 x7 x8 x9 x10 x11 x12 (ix4 g r s d)
      = updated (bstep x2 x5 x6 x7 x8 r s) (fun x => pick2 g x3 x4 (ix3 r s x)) (fun x => pick2 g x0 x1 (ix2 r x))
          (fun x => pick2 g x9 x11 (ix2 0 x)) (fun x => pick2 g x10 x12 (ix2 0 x)) d := by
  unfold out0_14 k0_pay20 k0_pay19 k0_pay18 k0_pay17
  rw [View.ld_unit_lit inb_S64x128x64_S64x128x64_0_0_0 x3 (by decide), View.ld_unit_lit inb_S64x128x64_S64x128x64_0_0_0 x4 (by decide),
    View.ld_unit_lit inb_S64x64_S64x64_0_0 x0 (by decide), View.ld_unit_lit inb_S64x64_S64x64_0_0 x1 (by decide),
    View.ld_unit_lit inb_S64x128_S64x128_0_0 x2 (by decide), View.ld_unit_lit inb_S128x128_S128x128_0_0 x5 (by decide),
    View.ld_unit_lit inb_S1x128_S1x128_0_0 x6 (by decide), View.ld_unit_lit inb_S1x128_S1x128_0_0 x7 (by decide),
    View.ld_unit_lit inb_S1x1_S1x1_0_0 x8 (by decide), View.ld_unit_lit inb_S1x64_S1x64_0_0 x9 (by decide),
    View.ld_unit_lit inb_S1x64_S1x64_0_0 x10 (by decide), View.ld_unit_lit inb_S1x64_S1x64_0_0 x11 (by decide),
    View.ld_unit_lit inb_S1x64_S1x64_0_0 x12 (by decide)]
  canon_tiles x h
  · idx_vars x
    obtain rfl := Fin.ext h1
    obtain rfl := Fin.ext h2
    obtain rfl := Fin.ext h3
    obtain rfl : g = 1 := Fin.ext (by show g.val = 1; omega)
    rw [pay1]
    rfl
  · idx_vars x
    obtain rfl := Fin.ext h1
    obtain rfl := Fin.ext h2
    obtain rfl := Fin.ext h3
    obtain rfl : g = 0 := Fin.ext (by show g.val = 0; omega)
    rw [pay14]
    rfl

/-- The block of the entropy: the same number in every entry. -/
theorem out15 (x0 x1 : Vec Ideal S64x64 .f32) (x2 : Vec Ideal S64x128 .f32) (x3 x4 : Vec Ideal S64x128x64 .f32) (x5 : Vec Ideal S128x128 .f32)
    (x6 x7 : Vec Ideal S1x128 .f32) (x8 : Vec Ideal S1x1 .f32) (x9 x10 x11 x12 : Vec Ideal S1x64 .f32)
    (u : Fin 8) (v : Fin 128) :
    out0_15 x0 x1 x2 x3 x4 x5 x6 x7 x8 x9 x10 x11 x12 (ix2 u v)
      = Ideal.div (∑ r : Fin 64, (0 - surprise (blogits x2 x5 x6 r))) (Ideal.ofBits .f32 1241513984#32) := by
  unfold out0_15
  rw [View.canon_cons_unit_lit inb_S8x128_S8x128_0_0 _ _ (by decide), View.ld_unit_lit inb_S64x128_S64x128_0_0 x2 (by decide),
    View.ld_unit_lit inb_S128x128_S128x128_0_0 x5 (by decide), View.ld_unit_lit inb_S1x128_S1x128_0_0 x6 (by decide), pay10]

end Cert.KernelBlock
end
-- ==== Proof.Arrays.lean ====
module
public import proofs.«01_k».proof.Proof.Cell
public import proofs.«01_k».proof.Proof.Gen.KernelIdeal.Frame
public import Idealize.ShloMosaic.Lib.Pipeline.ValueKit
@[expose] public section
/-! The three results as functions of the argument arrays. -/
noncomputable section
namespace Cert.Arrays
open Idealize Idealize.ShloMosaic Idealize.ShloMosaic.Pipeline Cert.KernelIdeal Cert.Cell

/-- The state's two parts side by side. -/
def query (a0 a1 : Vec Ideal S2048x64 .f32) : Vec Ideal S2048x128 .f32 :=
  concatenate S2048x128 1 [⟨S2048x64, a0⟩, ⟨S2048x64, a1⟩] (show Shape.Concatenates [S2048x64, S2048x64] S2048x128 1 by decide)

/-- Batch row `b`'s similarities. -/
def ascores (a0 a1 : Vec Ideal S2048x64 .f32) (a2 a3 : Vec Ideal S2048x128x64 .f32) (b : Fin 2048) : Fin 128 → EReal :=
  scores (fun s x => a2 (ix3 b s x)) (fun s x => a3 (ix3 b s x)) (fun x => a0 (ix2 b x)) (fun x => a1 (ix2 b x))

/-- Batch row `b`'s logits. -/
def alogits (q : Vec Ideal S2048x128 .f32) (a6 : Vec Ideal S128x128 .f32) (a7 : Vec Ideal S128 .f32) (b : Fin 2048) : Fin 128 → EReal :=
  logits (fun x => q (ix2 b x)) (fun x s => a6 (ix2 s x)) (fun s => a7 (ix1 s))

/-- How far slot `s` of batch row `b` moves. -/
def astep (q : Vec Ideal S2048x128 .f32) (a4 : Vec Ideal S1x128 .f32) (a5 : Vec Ideal S1 .f32) (a6 : Vec Ideal S128x128 .f32)
    (a7 : Vec Ideal S128 .f32) (b : Fin 2048) (s : Fin 128) : EReal :=
  step (fun x => q (ix2 b x)) (fun x => a4 (ix2 0 x)) (a5 (ix1 0)) (alogits q a6 a7 b) s

/-- The read at part `g`, batch row `b`, lane `d`. -/
def readOut (a0 a1 : Vec Ideal S2048x64 .f32) (a2 a3 : Vec Ideal S2048x128x64 .f32) (g : Fin 2) (b : Fin 2048) (d : Fin 64) : EReal :=
  readAt (ascores a0 a1 a2 a3 b) (fun s => pick2 g a2 a3 (ix3 b s d))

/-- The updated memory at part `g`, batch row `b`, slot `s`, lane `d`. -/
def nextMem (a0 a1 : Vec Ideal S2048x64 .f32) (a2 a3 : Vec Ideal S2048x128x64 .f32) (a4 : Vec Ideal S1x128 .f32) (a5 : Vec Ideal S1 .f32)
    (a6 : Vec Ideal S128x128 .f32) (a7 : Vec Ideal S128 .f32) (a8 a9 a10 a11 : Vec Ideal S64 .f32)
    (g : Fin 2) (b : Fin 2048) (s : Fin 128) (d : Fin 64) : EReal :=
  updated (astep (query a0 a1) a4 a5 a6 a7 b s) (fun x => pick2 g a2 a3 (ix3 b s x)) (fun x => pick2 g a0 a1 (ix2 b x))
    (fun x => pick2 g a8 a10 (ix1 x)) (fun x => pick2 g a9 a11 (ix1 x)) d

/-- Batch row `b`'s entropy term, before its sign. -/
def asurprise (a0 a1 : Vec Ideal S2048x64 .f32) (a6 : Vec Ideal S128x128 .f32) (a7 : Vec Ideal S128 .f32) (b : Fin 2048) : EReal :=
  surprise (alogits (query a0 a1) a6 a7 b)

end Cert.Arrays
end
-- ==== Proof.KernelArray.lean ====
module
public import proofs.«01_k».proof.Proof.KernelBlock
public import proofs.«01_k».proof.Proof.Arrays
public import Idealize.ShloMosaic.Lib.Claim
@[expose] public section
set_option maxRecDepth 16384
/-! What the kernel's three output arrays hold after the run, as functions of the argument arrays. -/
noncomputable section
namespace Cert.KernelArray
open Idealize Idealize.ShloMosaic Idealize.ShloMosaic.TcCoe Idealize.ShloMosaic.Pipeline Cert.KernelIdeal
open Cert.KernelIdeal.Gen Cert.Cell Cert.Arrays Cert.KernelBlock

variable (m : (ℓ : Loc nD τ sig) → Buf (Elt Ideal) ℓ) (c : Dev nD)

/-- Row `r` of grid point `t`'s block is row `64 * t + r` of the batch. -/
def row (t : Fin cfg0.N) (r : Fin 64) : Fin 2048 := ⟨64 * t.val + r.val, by have : t.val < 32 := t.isLt; omega⟩

/-- Where each window's block lies at a grid point. -/
theorem idx : ∀ t : Fin cfg0.N, win0_0.index t = ![t.val, 0] ∧ win0_1.index t = ![t.val, 0] ∧ win0_2.index t = ![t.val, 0]
    ∧ win0_3.index t = ![t.val, 0, 0] ∧ win0_4.index t = ![t.val, 0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![0, 0] ∧ win0_12.index t = ![0, 0] ∧ win0_13.index t = ![0, t.val, 0] ∧ win0_14.index t = ![0, t.val, 0, 0]
    ∧ win0_15.index t = ![t.val, 0] :=
  (by decide +kernel : ∀ t : Fin grid0.N, _)

/-- The real part of the state, as block `t` sees it. -/
theorem in0 (t : Fin cfg0.N) (r x : Fin 64) : iblk m c 0 t (ix2 r x) = m ((c : Thread nD τ).loc main_arg0) (ix2 (row t r) x) := by
  blk_ext [iblk, V, row, idx t]
/-- The imaginary part of the state, as block `t` sees it. -/
theorem in1 (t : Fin cfg0.N) (r x : Fin 64) : iblk m c 1 t (ix2 r x) = m ((c : Thread nD τ).loc main_arg1) (ix2 (row t r) x) := by
  blk_ext [iblk, V, row, idx t]
/-- The two parts of the state side by side, as block `t` sees them. -/
theorem in2 (t : Fin cfg0.N) (r : Fin 64) (x : Fin 128) : iblk m c 2 t (ix2 r x)
    = query (m ((c : Thread nD τ).loc main_arg0)) (m ((c : Thread nD τ).loc main_arg1)) (ix2 (row t r) x) := by
  blk_ext [iblk, V, row, idx t]
/-- The real part of the memory, as block `t` sees it. -/
theorem in3 (t : Fin cfg0.N) (r : Fin 64) (s : Fin 128) (x : Fin 64) : iblk m c 3 t (ix3 r s x) = m ((c : Thread nD τ).loc main_arg2) (ix3 (row t r) s x) := by
  blk_ext [iblk, V, row, idx t]
/-- The imaginary part of the memory, as block `t` sees it. -/
theorem in4 (t : Fin cfg0.N) (r : Fin 64) (s : Fin 128) (x : Fin 64) : iblk m c 4 t (ix3 r s x) = m ((c : Thread nD τ).loc main_arg3) (ix3 (row t r) s x) := by
  blk_ext [iblk, V, row, idx t]
/-- The slot weights: every block sees the whole transposed matrix. -/
theorem in5 (t : Fin cfg0.N) (x s : Fin 128) : iblk m c 5 t (ix2 x s) = m ((c : Thread nD τ).loc main_arg6) (ix2 s x) := by
  have e : iblk m c 5 t (ix2 x s) = V m c main_v1 (ix2 x s) := by
    blk_ext [iblk, idx t]
  rw [e]
  show StableHlo.after hostOps0 (fun b => m (c, b)) _ _ = _
  entry_read
  pointwise []
/-- The slot biases, as a row. -/
theorem in6 (t : Fin cfg0.N) (s : Fin 128) : iblk m c 6 t (ix2 0 s) = m ((c : Thread nD τ).loc main_arg7) (ix1 s) := by
  have e : iblk m c 6 t (ix2 0 s) = V m c main_v2 (ix2 0 s) := by
    blk_ext [iblk, idx t]
  rw [e]
  show StableHlo.after hostOps0 (fun b => m (c, b)) _ _ = _
  entry_read
  pointwise []
/-- The gate's weights. -/
theorem in7 (t : Fin cfg0.N) (x : Fin 128) : iblk m c 7 t (ix2 0 x) = m ((c : Thread nD τ).loc main_arg4) (ix2 0 x) := by
  blk_ext [iblk, V, row, idx t]
/-- The gate's bias, as a 1 by 1 array. -/
theorem in8 (t : Fin cfg0.N) : iblk m c 8 t (ix2 0 0) = m ((c : Thread nD τ).loc main_arg5) (ix1 0) := by
  have e : iblk m c 8 t (ix2 0 0) = V m c main_v3 (ix2 0 0) := by
    blk_ext [iblk, idx t]
  rw [e]
  show StableHlo.after hostOps0 (fun b => m (c, b)) _ _ = _
  entry_read
  pointwise []
/-- The real part's scale, as a row. -/
theorem in9 (t : Fin cfg0.N) (x : Fin 64) : iblk m c 9 t (ix2 0 x) = m ((c : Thread nD τ).loc main_arg8) (ix1 x) := by
  have e : iblk m c 9 t (ix2 0 x) = V m c main_v4 (ix2 0 x) := by
    blk_ext [iblk, idx t]
  rw [e]
  show StableHlo.after hostOps0 (fun b => m (c, b)) _ _ = _
  entry_read
  pointwise []
/-- The real part's shift, as a row. -/
theorem in10 (t : Fin cfg0.N) (x : Fin 64) : iblk m c 10 t (ix2 0 x) = m ((c : Thread nD τ).loc main_arg9) (ix1 x) := by
  have e : iblk m c 10 t (ix2 0 x) = V m c main_v5 (ix2 0 x) := by
    blk_ext [iblk, idx t]
  rw [e]
  show StableHlo.after hostOps0 (fun b => m (c, b)) _ _ = _
  entry_read
  pointwise []
/-- The imaginary part's scale, as a row. -/
theorem in11 (t : Fin cfg0.N) (x : Fin 64) : iblk m c 11 t (ix2 0 x) = m ((c : Thread nD τ).loc main_arg10) (ix1 x) := by
  have e : iblk m c 11 t (ix2 0 x) = V m c main_v6 (ix2 0 x) := by
    blk_ext [iblk, idx t]
  rw [e]
  show StableHlo.after hostOps0 (fun b => m (c, b)) _ _ = _
  entry_read
  pointwise []
/-- The imaginary part's shift, as a row. -/
theorem in12 (t : Fin cfg0.N) (x : Fin 64) : iblk m c 12 t (ix2 0 x) = m ((c : Thread nD τ).loc main_arg11) (ix1 x) := by
  have e : iblk m c 12 t (ix2 0 x) = V m c main_v7 (ix2 0 x) := by
    blk_ext [iblk, idx t]
  rw [e]
  show StableHlo.after hostOps0 (fun b => m (c, b)) _ _ = _
  entry_read
  pointwise []

/-- A block row's similarities are its batch row's. -/
theorem bscores_eq (t : Fin cfg0.N) (r : Fin 64) :
    bscores (iblk m c 0 t) (iblk m c 1 t) (iblk m c 3 t) (iblk m c 4 t) r = ascores (m ((c : Thread nD τ).loc main_arg0)) (m ((c : Thread nD τ).loc main_arg1)) (m ((c : Thread nD τ).loc main_arg2)) (m ((c : Thread nD τ).loc main_arg3)) (row t r) := by
  unfold bscores ascores
  simp only [in0, in1, in3, in4]

/-- A block row's logits are its batch row's. -/
theorem blogits_eq (t : Fin cfg0.N) (r : Fin 64) :
    blogits (iblk m c 2 t) (iblk m c 5 t) (iblk m c 6 t) r
      = alogits (query (m ((c : Thread nD τ).loc main_arg0)) (m ((c : Thread nD τ).loc main_arg1)))
          (m ((c : Thread nD τ).loc main_arg6)) (m ((c : Thread nD τ).loc main_arg7)) (row t r) := by
  unfold blogits alogits
  simp only [in2, in5, in6]

/-- A block row's slot moves as far as its batch row's. -/
theorem bstep_eq (t : Fin cfg0.N) (r : Fin 64) (s : Fin 128) :
    bstep (iblk m c 2 t) (iblk m c 5 t) (iblk m c 6 t) (iblk m c 7 t) (iblk m c 8 t) r s
      = astep (query (m ((c : Thread nD τ).loc main_arg0)) (m ((c : Thread nD τ).loc main_arg1)))
          (m ((c : Thread nD τ).loc main_arg4)) (m ((c : Thread nD τ).loc main_arg5))
          (m ((c : Thread nD τ).loc main_arg6)) (m ((c : Thread nD τ).loc main_arg7)) (row t r) s := by
  unfold bstep astep
  rw [blogits_eq]
  simp only [in2, in7, in8]

/-- The read's array after the run. -/
theorem arr13 : (dats m 0 c).arrAt 13 (cfgs 0).N
    = fun j : S2x2048x64.Idx => readOut (m ((c : Thread nD τ).loc main_arg0)) (m ((c : Thread nD τ).loc main_arg1)) (m ((c : Thread nD τ).loc main_arg2)) (m ((c : Thread nD τ).loc main_arg3)) (j 0) (j 1) (j 2) := by
  refine (dats m 0 c).arrAt_eq_of_covers 13 _ (by decide +kernel) fun t hf y => ?_
  blk_simp
  rw [after0_13]
  idx_vars y
  have e : ((cfg0.win 13).blk t).view.emb (ix3 y0 y1 y2) = ix3 y0 (row t y1) y2 := by
    blk_ext [row, idx t]
  refine Eq.trans ?_ (congrArg (fun j : S2x2048x64.Idx => readOut (m ((c : Thread nD τ).loc main_arg0)) (m ((c : Thread nD τ).loc main_arg1)) (m ((c : Thread nD τ).loc main_arg2)) (m ((c : Thread nD τ).loc main_arg3)) (j 0) (j 1) (j 2)) e.symm)
  show _ = readOut (m ((c : Thread nD τ).loc main_arg0)) (m ((c : Thread nD τ).loc main_arg1)) (m ((c : Thread nD τ).loc main_arg2)) (m ((c : Thread nD τ).loc main_arg3)) y0 (row t y1) y2
  rw [out13, bscores_eq]
  unfold readOut pick2
  split <;> simp only [in3, in4]

/-- The updated memory's array after the run. -/
theorem arr14 : (dats m 0 c).arrAt 14 (cfgs 0).N
    = fun j : S2x2048x128x64.Idx => nextMem (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (j 0) (j 1) (j 2) (j 3) := by
  refine (dats m 0 c).arrAt_eq_of_covers 14 _ (by decide +kernel) fun t hf y => ?_
  blk_simp
  rw [after0_14]
  idx_vars y
  have e : ((cfg0.win 14).blk t).view.emb (ix4 y0 y1 y2 y3) = ix4 y0 (row t y1) y2 y3 := by
    blk_ext [row, idx t]
  refine Eq.trans ?_ (congrArg (fun j : S2x2048x128x64.Idx => nextMem (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (j 0) (j 1) (j 2) (j 3)) e.symm)
  show _ = nextMem (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) y0 (row t y1) y2 y3
  rw [out14, bstep_eq]
  unfold nextMem pick2
  split <;> simp only [in0, in1, in3, in4, in9, in10, in11, in12]

/-- The block that row `u` of the entropy's array belongs to. -/
def blockOf (u : Fin 256) : Fin cfg0.N := ⟨u.val / 8, by show u.val / 8 < 32; omega⟩

/-- The entropy's array after the run: every entry of block `t` is that block's share. -/
theorem arr15 : (dats m 0 c).arrAt 15 (cfgs 0).N
    = fun j : S256x128.Idx => Ideal.div (∑ r : Fin 64, (0 - asurprise (m ((c : Thread nD τ).loc main_arg0)) (m ((c : Thread nD τ).loc main_arg1)) (m ((c : Thread nD τ).loc main_arg6)) (m ((c : Thread nD τ).loc main_arg7)) (row (blockOf (j 0)) r))) (Ideal.ofBits .f32 1241513984#32) := by
  refine (dats m 0 c).arrAt_eq_of_covers 15 _ (by decide +kernel) fun t hf y => ?_
  blk_simp
  rw [after0_15]
  idx_vars y
  have e : ((cfg0.win 15).blk t).view.emb (ix2 y0 y1)
      = ix2 (⟨8 * t.val + y0.val, by have : t.val < 32 := t.isLt; omega⟩ : Fin 256) y1 := by
    blk_ext [idx t]
  refine Eq.trans ?_ (congrArg (fun j : S256x128.Idx => Ideal.div (∑ r : Fin 64, (0 - asurprise (m ((c : Thread nD τ).loc main_arg0)) (m ((c : Thread nD τ).loc main_arg1)) (m ((c : Thread nD τ).loc main_arg6)) (m ((c : Thread nD τ).loc main_arg7)) (row (blockOf (j 0)) r))) (Ideal.ofBits .f32 1241513984#32)) e.symm)
  have hb : blockOf (⟨8 * t.val + y0.val, by have : t.val < 32 := t.isLt; omega⟩ : Fin 256) = t :=
    Fin.ext (by show (8 * t.val + y0.val) / 8 = t.val; omega)
  show _ = Ideal.div (∑ r : Fin 64, (0 - asurprise (m ((c : Thread nD τ).loc main_arg0)) (m ((c : Thread nD τ).loc main_arg1)) (m ((c : Thread nD τ).loc main_arg6)) (m ((c : Thread nD τ).loc main_arg7)) (row (blockOf ⟨8 * t.val + y0.val, _⟩) r))) (Ideal.ofBits .f32 1241513984#32)
  rw [out15, hb]
  unfold asurprise
  simp only [blogits_eq]

end Cert.KernelArray
end
-- ==== Proof.RefValue.lean ====
module
public import proofs.«01_k».proof.Proof.Arrays
public import proofs.«01_k».proof.Proof.Gen.ReferenceIdeal.Run
public import Idealize.ShloMosaic.Lib.Pipeline.ValueKit
public import Idealize.ShloMosaic.Lib.Tactic.CleanTypes
public import Idealize.ShloMosaic.Lib.Claim
@[expose] public section
set_option maxRecDepth 16384
/-! What the reference computes, index by index. -/
noncomputable section
namespace Cert.RefValue
open Idealize Idealize.ShloMosaic Idealize.ShloMosaic.Pipeline Cert.ReferenceIdeal
open Cert.ReferenceIdeal.Gen Idealize.ShloMosaic.TcCoe Idealize.ShloMosaic.StableHlo Cert.ReferenceIdeal.Value Cert.Cell Cert.Arrays Cert.Rows Cert.TopThree

variable (W : Valuation τ sig (Elt Ideal))

/-! The arguments' contents. -/

/-- Argument 0, counting from 0. -/
abbrev A0 : Vec Ideal S2048x64 .f32 := W (Proc.devRef .tc main_arg0)
/-- Argument 1. -/
abbrev A1 : Vec Ideal S2048x64 .f32 := W (Proc.devRef .tc main_arg1)
/-- Argument 2. -/
abbrev A2 : Vec Ideal S2048x128x64 .f32 := W (Proc.devRef .tc main_arg2)
/-- Argument 3. -/
abbrev A3 : Vec Ideal S2048x128x64 .f32 := W (Proc.devRef .tc main_arg3)
/-- Argument 4. -/
abbrev A4 : Vec Ideal S1x128 .f32 := W (Proc.devRef .tc main_arg4)
/-- Argument 5. -/
abbrev A5 : Vec Ideal S1 .f32 := W (Proc.devRef .tc main_arg5)
/-- Argument 6. -/
abbrev A6 : Vec Ideal S128x128 .f32 := W (Proc.devRef .tc main_arg6)
/-- Argument 7. -/
abbrev A7 : Vec Ideal S128 .f32 := W (Proc.devRef .tc main_arg7)
/-- Argument 8. -/
abbrev A8 : Vec Ideal S64 .f32 := W (Proc.devRef .tc main_arg8)
/-- Argument 9. -/
abbrev A9 : Vec Ideal S64 .f32 := W (Proc.devRef .tc main_arg9)
/-- Argument 10. -/
abbrev A10 : Vec Ideal S64 .f32 := W (Proc.devRef .tc main_arg10)
/-- Argument 11. -/
abbrev A11 : Vec Ideal S64 .f32 := W (Proc.devRef .tc main_arg11)

/-- Batch row `b`'s similarities. -/
abbrev rscores (b : Fin 2048) : Fin 128 → EReal := ascores (A0 W) (A1 W) (A2 W) (A3 W) b

/-- Batch row `b`'s logits. -/
abbrev rlogits (b : Fin 2048) : Fin 128 → EReal :=
  alogits (query (A0 W) (A1 W)) (A6 W) (A7 W) b

/-- The similarities. -/
theorem v7 (b : Fin 2048) (s : Fin 128) : res_main_v7 W (ix2 b s) = rscores W b s := by
  unfold res_main_v7
  pointwise []
  rfl

/-- The similarities less their largest. -/
theorem v11 (b : Fin 2048) (s : Fin 128) : res_main_v11 W (ix2 b s) = rscores W b s - peak (rscores W b) := by
  unfold res_main_v11
  clean_types
  pointwise []
  simp only [v7]
  rfl

/-- The exponentials of those, under the softmax's own shift. -/
theorem v18 (b : Fin 2048) (s : Fin 128) : res_main_v18 W (ix2 b s)
    = Ideal.exp ((rscores W b s - peak (rscores W b))
        - max (Ideal.ofBits .f32 0xFF800000#32) (peak fun x => rscores W b x - peak (rscores W b))) := by
  unfold res_main_v18
  clean_types
  pointwise []
  simp only [v11]
  rfl

/-- The read's softmax. -/
theorem v23 (b : Fin 2048) (s : Fin 128) (z : Fin 1) : res_main_v23 W (ix3 b s z) = soft (rscores W b) s := by
  unfold res_main_v23
  clean_types
  pointwise []
  simp only [v18]
  exact soft_again (rscores W b) s

/-- The logits. -/
theorem v47 (b : Fin 2048) (s : Fin 128) : res_main_v47 W (ix2 b s) = rlogits W b s := by
  unfold res_main_v47
  pointwise []
  rfl

/-- The logits less their largest. -/
theorem v51 (b : Fin 2048) (s : Fin 128) : res_main_v51 W (ix2 b s) = rlogits W b s - peak (rlogits W b) := by
  unfold res_main_v51
  clean_types
  pointwise []
  simp only [v47]
  rfl

/-- The exponentials of those, under the softmax's own shift. -/
theorem v58 (b : Fin 2048) (s : Fin 128) : res_main_v58 W (ix2 b s)
    = Ideal.exp ((rlogits W b s - peak (rlogits W b))
        - max (Ideal.ofBits .f32 0xFF800000#32) (peak fun x => rlogits W b x - peak (rlogits W b))) := by
  unfold res_main_v58
  clean_types
  pointwise []
  simp only [v51]
  rfl

/-- The write weights. -/
theorem v62 (b : Fin 2048) (s : Fin 128) : res_main_v62 W (ix2 b s) = soft (rlogits W b) s := by
  unfold res_main_v62
  clean_types
  pointwise []
  simp only [v58]
  exact soft_again (rlogits W b) s

/-- The layer normalisation by a quotient by a square root is the one by a reciprocal square root. -/
theorem norm_div (y g b : Fin 64 → EReal) (d : Fin 64) :
    Ideal.div (y d - mean y) (Ideal.sqrt (spread y)) * g d + b d = norm y g b d := by
  rw [div_sqrt _ (spread_pos y)]
  rfl

/-- A slot's move, before its lane. -/
def rmove (b : Fin 2048) (s : Fin 128) : EReal := res_main_v97 W (ix3 b s 0)

/-- A slot's row, moved towards the state and squashed. -/
def moved (p : Vec Ideal S2048x128x64 .f32) (a : Vec Ideal S2048x64 .f32) (b : Fin 2048) (s : Fin 128) (d : Fin 64) : EReal :=
  Ideal.tanh (p (ix3 b s d) + rmove W b s * (a (ix2 b d) - p (ix3 b s d)))

/-- The real part of the memory, moved and squashed. -/
theorem v109 (b : Fin 2048) (s : Fin 128) (d : Fin 64) : res_main_v109 W (ix3 b s d) = moved W (A2 W) (A0 W) b s d := by
  unfold res_main_v109
  pointwise []
  rfl

/-- The imaginary part of the memory, moved and squashed. -/
theorem v111 (b : Fin 2048) (s : Fin 128) (d : Fin 64) : res_main_v111 W (ix3 b s d) = moved W (A3 W) (A1 W) b s d := by
  unfold res_main_v111
  pointwise []
  rfl

/-- The mean over the lanes of a moved real row. -/
theorem v115 (b : Fin 2048) (s : Fin 128) (z : Fin 1) : res_main_v115 W (ix3 b s z) = mean (moved W (A2 W) (A0 W) b s) := by
  unfold res_main_v115
  clean_types
  pointwise []
  simp only [v109]
  rfl

/-- The mean over the lanes of a moved imaginary row. -/
theorem v139 (b : Fin 2048) (s : Fin 128) (z : Fin 1) : res_main_v139 W (ix3 b s z) = mean (moved W (A3 W) (A1 W) b s) := by
  unfold res_main_v139
  clean_types
  pointwise []
  simp only [v111]
  rfl

/-- A moved real row's deviation from its mean. -/
theorem v117 (b : Fin 2048) (s : Fin 128) (d : Fin 64) : res_main_v117 W (ix3 b s d)
    = moved W (A2 W) (A0 W) b s d - mean (moved W (A2 W) (A0 W) b s) := by
  unfold res_main_v117
  pointwise []
  rw [v115, v109]

/-- A moved imaginary row's deviation from its mean. -/
theorem v141 (b : Fin 2048) (s : Fin 128) (d : Fin 64) : res_main_v141 W (ix3 b s d)
    = moved W (A3 W) (A1 W) b s d - mean (moved W (A3 W) (A1 W) b s) := by
  unfold res_main_v141
  pointwise []
  rw [v139, v111]

/-- The reference's read. -/
theorem read_apply (g : Fin 2) (b : Fin 2048) (d : Fin 64) :
    (concatenate S2x2048x64 0 [⟨S1x2048x64, (broadcastInDim S1x2048x64 ![1, 2] bcast_S2048x64_S1x2048x64_1_2 (Host.reduceAdd (mulf (W (Proc.devRef .tc main_arg2)) (broadcastInDim S2048x128x64 ![0, 1, 2] bcast_S2048x128x1_S2048x128x64_0_1_2 (res_main_v23 W))) (constant S_ .f32 0x00000000#32) reducesTo_S2048x128x64_S2048x64_d1 h_S_))⟩, ⟨S1x2048x64, (broadcastInDim S1x2048x64 ![1, 2] bcast_S2048x64_S1x2048x64_1_2 (Host.reduceAdd (mulf (W (Proc.devRef .tc main_arg3)) (broadcastInDim S2048x128x64 ![0, 1, 2] bcast_S2048x128x1_S2048x128x64_0_1_2 (res_main_v23 W))) (constant S_ .f32 0x00000000#32) reducesTo_S2048x128x64_S2048x64_d1 h_S_))⟩] concatenates_S1x2048x64_S1x2048x64_S2x2048x64_d0 : Vec Ideal S2x2048x64 .f32) (ix3 g b d)
      = readOut (A0 W) (A1 W) (A2 W) (A3 W) g b d := by
  concat_tiles i h
  all_goals idx_vars i
  all_goals
    obtain rfl : b = i1 := Fin.ext h1.symm
    obtain rfl : d = i2 := Fin.ext h2.symm
    clean_types
    pointwise []
    simp only [v23]
  · obtain rfl : g = 0 := Fin.ext h
    rfl
  · obtain rfl : g = 1 := Fin.ext h
    rfl

/-- The reference's updated memory. -/
theorem next_apply (g : Fin 2) (b : Fin 2048) (s : Fin 128) (d : Fin 64) :
    (concatenate S2x2048x128x64 0 [⟨S1x2048x128x64, (broadcastInDim S1x2048x128x64 ![1, 2, 3] bcast_S2048x128x64_S1x2048x128x64_1_2_3 (addf (mulf (Host.divf (subf (res_main_v109 W) (broadcastInDim S2048x128x64 ![0, 1, 2] bcast_S2048x128x1_S2048x128x64_0_1_2 (res_main_v115 W))) (broadcastInDim S2048x128x64 ![0, 1, 2] bcast_S2048x128x1_S2048x128x64_0_1_2 (Host.sqrt (addf (Host.divf (broadcastInDim S2048x128x1 ![0, 1] bcast_S2048x128_S2048x128x1_0_1 (Host.reduceAdd (mulf (res_main_v117 W) (res_main_v117 W)) (constant S_ .f32 0x00000000#32) reducesTo_S2048x128x64_S2048x128_d2 h_S_)) (broadcastInDim S2048x128x1 ![] bcast_S_S2048x128x1 (constant S_ .f32 0x42800000#32))) (broadcastInDim S2048x128x1 ![] bcast_S_S2048x128x1 (constant S_ .f32 0x358637BD#32)))))) (broadcastInDim S2048x128x64 ![0, 1, 2] bcast_S1x1x64_S2048x128x64_0_1_2 (broadcastInDim S1x1x64 ![2] bcast_S64_S1x1x64_2 (W (Proc.devRef .tc main_arg8))))) (broadcastInDim S2048x128x64 ![0, 1, 2] bcast_S1x1x64_S2048x128x64_0_1_2 (broadcastInDim S1x1x64 ![2] bcast_S64_S1x1x64_2 (W (Proc.devRef .tc main_arg9))))))⟩, ⟨S1x2048x128x64, (broadcastInDim S1x2048x128x64 ![1, 2, 3] bcast_S2048x128x64_S1x2048x128x64_1_2_3 (addf (mulf (Host.divf (subf (res_main_v111 W) (broadcastInDim S2048x128x64 ![0, 1, 2] bcast_S2048x128x1_S2048x128x64_0_1_2 (res_main_v139 W))) (broadcastInDim S2048x128x64 ![0, 1, 2] bcast_S2048x128x1_S2048x128x64_0_1_2 (Host.sqrt (addf (Host.divf (broadcastInDim S2048x128x1 ![0, 1] bcast_S2048x128_S2048x128x1_0_1 (Host.reduceAdd (mulf (res_main_v141 W) (res_main_v141 W)) (constant S_ .f32 0x00000000#32) reducesTo_S2048x128x64_S2048x128_d2 h_S_)) (broadcastInDim S2048x128x1 ![] bcast_S_S2048x128x1 (constant S_ .f32 0x42800000#32))) (broadcastInDim S2048x128x1 ![] bcast_S_S2048x128x1 (constant S_ .f32 0x358637BD#32)))))) (broadcastInDim S2048x128x64 ![0, 1, 2] bcast_S1x1x64_S2048x128x64_0_1_2 (broadcastInDim S1x1x64 ![2] bcast_S64_S1x1x64_2 (W (Proc.devRef .tc main_arg10))))) (broadcastInDim S2048x128x64 ![0, 1, 2] bcast_S1x1x64_S2048x128x64_0_1_2 (broadcastInDim S1x1x64 ![2] bcast_S64_S1x1x64_2 (W (Proc.devRef .tc main_arg11))))))⟩] concatenates_S1x2048x128x64_S1x2048x128x64_S2x2048x128x64_d0 : Vec Ideal S2x2048x128x64 .f32) (ix4 g b s d)
      = updated (rmove W b s) (fun x => pick2 g (A2 W) (A3 W) (ix3 b s x)) (fun x => pick2 g (A0 W) (A1 W) (ix2 b x))
          (fun x => pick2 g (A8 W) (A10 W) (ix1 x)) (fun x => pick2 g (A9 W) (A11 W) (ix1 x)) d := by
  concat_tiles i h
  all_goals idx_vars i
  all_goals
    obtain rfl : i1 = b := Fin.ext h1
    obtain rfl : i2 = s := Fin.ext h2
    obtain rfl : i3 = d := Fin.ext h3
    clean_types
    pointwise []
  · obtain rfl : g = 0 := Fin.ext h
    simp only [v115, v117, v109]
    simp only [pick2_zero]
    exact norm_div (moved W (A2 W) (A0 W) i1 i2) (fun x => A8 W (ix1 x)) (fun x => A9 W (ix1 x)) i3
  · obtain rfl : g = 1 := Fin.ext h
    simp only [v139, v141, v111]
    simp only [pick2_one]
    exact norm_div (moved W (A3 W) (A1 W) i1 i2) (fun x => A10 W (ix1 x)) (fun x => A11 W (ix1 x)) i3

/-- The reference's entropy. -/
theorem entropy_apply (z : S_.Idx) :
    (Host.divf (Host.reduceAdd (Host.negf (Host.reduceAdd (mulf (res_main_v62 W) (Host.log (addf (res_main_v62 W) (broadcastInDim S2048x128 ![] bcast_S_S2048x128 (constant S_ .f32 0x2EDBE6FF#32))))) (constant S_ .f32 0x00000000#32) reducesTo_S2048x128_S2048_d1 h_S_)) (constant S_ .f32 0x00000000#32) reducesTo_S2048_S_d0 h_S_) (constant S_ .f32 0x45000000#32) : Vec Ideal S_ .f32) z
      = Ideal.div (∑ b : Fin 2048, -(surprise (rlogits W b))) (Ideal.ofBits .f32 0x45000000#32) := by
  clean_types
  pointwise []
  simp only [v62]
  rfl

end Cert.RefValue
end
-- ==== Proof.RefScatter.lean ====
module
public import proofs.«01_k».proof.Proof.RefValue
public import Idealize.ShloMosaic.Lib.Routing.OpsPair
public import Idealize.ShloMosaic.Lib.Routing.OpsSet
public import Idealize.ShloMosaic.Lib.Pointwise.IndexBridge
@[expose] public section
set_option maxRecDepth 16384
/-! What the reference scatters: each row's three greatest weights at their places. -/
noncomputable section
namespace Cert.RefScatter
open Idealize Idealize.ShloMosaic Idealize.ShloMosaic.Pipeline Cert.ReferenceIdeal
open Cert.ReferenceIdeal.Gen Idealize.ShloMosaic.TcCoe Idealize.ShloMosaic.StableHlo Cert.ReferenceIdeal.Value
open Cert.Cell Cert.Arrays Cert.Rows Cert.TopThree Cert.RefValue

/-- An index of a matrix with its second coordinate replaced. -/
theorem along_ix2 (b : Fin 2048) (s k : Fin 128) : Shape.Idx.along (s := S2048x128) (ix2 b s) 1 k = ix2 b k := by
  funext a
  match a with
  | ⟨0, _⟩ => rfl
  | ⟨1, _⟩ => rfl

/-- An index into the first three columns, as an index of the whole matrix. -/
theorem slice_ix2 (b : Fin 2048) (r : Fin 3) (h : S2048x128.Slices (fun _ => 0) S2048x3) :
    (fun a => ⟨0 + ((ix2 b r : S2048x3.Idx) (a.cast h.1.symm)).val, Nat.lt_of_lt_of_le (Nat.add_lt_add_left ((ix2 b r : S2048x3.Idx) _).isLt _) (h.2 a)⟩ : S2048x128.Idx)
      = ix2 b (r.castLE (by omega)) := by
  funext a
  match a with
  | ⟨0, _⟩ => exact Fin.ext (Nat.zero_add _)
  | ⟨1, _⟩ => exact Fin.ext (Nat.zero_add _)

/-- The place from which a row's sort takes its rank `r`. -/
theorem sorted_place (x : FVec Ideal S2048x128 .f32) (b : Fin 2048) (r : Fin 3) (j : S2048x128.Idx) (hj : j = ix2 b (r.castLE (by omega))) :
    j.along 1 (sortedFrom (fun k k' => FloatOps.cmpfTotal (F := Ideal) (φ := .f32) .gt (x (j.along 1 k)) (x (j.along 1 k')) == 1#1) (j 1))
      = ix2 b (ranked (fun s => x (ix2 b s)) r) := by
  subst hj
  refine (along_ix2 b _ _).trans ?_
  have e : (fun k k' : Fin 128 => FloatOps.cmpfTotal (F := Ideal) (φ := .f32) .gt
        (x (Shape.Idx.along (s := S2048x128) (ix2 b (r.castLE (by omega))) 1 k))
        (x (Shape.Idx.along (s := S2048x128) (ix2 b (r.castLE (by omega))) 1 k')) == 1#1)
      = fun k k' => FloatOps.cmpfTotal (F := Ideal) (φ := .f32) .gt (x (ix2 b k)) (x (ix2 b k')) == 1#1 := by
    funext k k'
    rw [along_ix2, along_ix2]
  exact congrArg (fun R : Fin 128 → Fin 128 → Bool => (ix2 b (sortedFrom R (r.castLE (by omega))) : S2048x128.Idx)) e

/-- The `r`-th greatest value of a row. -/
theorem topK_value (x : FVec Ideal S2048x128 .f32) (h : S2048x128.Slices (fun _ => 0) S2048x3) (b : Fin 2048) (r : Fin 3) :
    (Host.topK S2048x3 1 (FloatOps.cmpfTotal (F := Ideal) (φ := .f32) .gt) x h).1 (ix2 b r) = x (ix2 b (ranked (fun s => x (ix2 b s)) r)) := by
  exact congrArg x (sorted_place x b r _ (slice_ix2 b r h))

/-- The place of the `r`-th greatest value of a row. -/
theorem topK_place (x : FVec Ideal S2048x128 .f32) (h : S2048x128.Slices (fun _ => 0) S2048x3) (b : Fin 2048) (r : Fin 3) :
    (Host.topK S2048x3 1 (FloatOps.cmpfTotal (F := Ideal) (φ := .f32) .gt) x h).2 (ix2 b r)
      = BitVec.ofNat 32 (ranked (fun s => x (ix2 b s)) r).val :=
  (congrArg (fun j : S2048x128.Idx => if hd : 1 < S2048x128.rank then iotaInDim S2048x128 32 ⟨1, hd⟩ j else 0#32)
    (sorted_place x b r _ (slice_ix2 b r h))).trans rfl

variable (W : Valuation τ sig (Elt Ideal))

/-- The places the reference scatters to. -/
theorem indices_apply (b : Fin 2048) (r : Fin 3) :
    res_main_indices W (ix2 b r) = BitVec.ofNat 32 (ranked (soft (rlogits W b)) r).val := by
  unfold res_main_indices
  refine (topK_place (res_main_v62 W) _ b r).trans ?_
  simp only [v62]

/-- The values it scatters. -/
theorem values_apply (b : Fin 2048) (r : Fin 3) :
    (Host.topK S2048x3 1 (FloatOps.cmpfTotal (F := Ideal) (φ := .f32) .gt) (res_main_v62 W) sliceFits_S2048x128_S2048x3).1 (ix2 b r)
      = soft (rlogits W b) (ranked (soft (rlogits W b)) r) := by
  refine (topK_value (res_main_v62 W) _ b r).trans ?_
  simp only [v62]

/-- The words by which the reference scatters: the row, then the place. -/
def words : IVec S2048x3x2 32 :=
  concatenate S2048x3x2 2 [⟨S2048x3x1, (broadcastInDim S2048x3x1 ![0, 1] bcast_S2048x3_S2048x3x1_0_1 (broadcastInDim S2048x3 ![0, 1] bcast_S2048x1_S2048x3_0_1 (select (cmpi .slt (res_main_v73 W) (broadcastInDim S2048x1 ![] bcast_S_S2048x1 (constantI S_ 32 0#32))) (addi (res_main_v73 W) (broadcastInDim S2048x1 ![] bcast_S_S2048x1 (constantI S_ 32 2048#32))) (res_main_v73 W))))⟩, ⟨S2048x3x1, (broadcastInDim S2048x3x1 ![0, 1] bcast_S2048x3_S2048x3x1_0_1 (select (cmpi .slt (res_main_indices W) (broadcastInDim S2048x3 ![] bcast_S_S2048x3 (constantI S_ 32 0#32))) (addi (res_main_indices W) (broadcastInDim S2048x3 ![] bcast_S_S2048x3 (constantI S_ 32 128#32))) (res_main_indices W)))⟩] concatenates_S2048x3x1_S2048x3x1_S2048x3x2_d2

/-- The row's word. -/
theorem words_row (b : Fin 2048) (r : Fin 3) : words W (ix3 b r 0) = BitVec.ofNat 32 b.val := by
  unfold words res_main_v73
  pointwise []
  refine Routing.wrap_of_lt _ _ ?_
  rw [BitVec.toNat_ofNat]
  omega

/-- The place's word. -/
theorem words_place (b : Fin 2048) (r : Fin 3) :
    words W (ix3 b r 1) = BitVec.ofNat 32 (ranked (soft (rlogits W b)) r).val := by
  unfold words
  pointwise []
  rw [indices_apply]
  refine Routing.wrap_of_lt _ _ ?_
  rw [BitVec.toNat_ofNat]
  omega

/-- Where an update lands. -/
theorem lands (k0 : Fin 2048) (k1 : Fin 3) (b : Fin 2048) (s : Fin 128) :
    scatter_S2048x128_S2048x3x2_S2048x3_n_01_01_2.resultIdx? (ix2 k0 k1) (words W) = some (ix2 b s)
      ↔ k0 = b ∧ ranked (soft (rlogits W k0)) k1 = s := by
  have h0 : ∀ n : Fin 2048, (BitVec.ofNat 32 n.val).toInt = (n.val : Int) := fun n => by
    rw [BitVec.toInt_eq_toNat_of_lt] <;> rw [BitVec.toNat_ofNat] <;> omega
  rw [ix2_eq_valueIdx, ix2_eq_valueIdx]
  refine (Routing.scatter_lands2 scatter_S2048x128_S2048x3x2_S2048x3_n_01_01_2 rfl rfl rfl (words W) k0 k1 b s).trans ?_
  rw [← ix3_eq_valueIdx, ← ix3_eq_valueIdx, words_row, words_place, toInt_place, h0]
  constructor
  · rintro ⟨h, h'⟩
    exact ⟨Fin.ext (by exact_mod_cast h), Fin.ext (by exact_mod_cast h')⟩
  · rintro ⟨rfl, rfl⟩
    exact ⟨rfl, rfl⟩

/-- The scattered weights. -/
theorem v88 (b : Fin 2048) (s : Fin 128) : res_main_v88 W (ix2 b s) = rankedSparse (soft (rlogits W b)) s := by
  unfold res_main_v88 rankedSparse
  split
  · next h =>
    obtain ⟨r, hr⟩ := h
    refine Routing.scatter_set_hit _ _ (words W) _ (ix2 b s) _ (fun k hk => ?_) (ix2 b r) ((lands W b r b s).2 ⟨rfl, hr⟩)
    idx_vars k
    obtain ⟨rfl, rfl⟩ := (lands W k0 k1 b s).1 hk
    exact values_apply W k0 k1
  · next h =>
    refine (Routing.scatter_set_miss _ _ (words W) _ (ix2 b s) (fun k hk => ?_)).trans ?_
    · idx_vars k
      obtain ⟨rfl, rfl⟩ := (lands W k0 k1 b s).1 hk
      exact h ⟨k1, rfl⟩
    · pointwise []

/-- How far the reference moves a slot. -/
theorem rmove_eq (b : Fin 2048) (s : Fin 128) :
    rmove W b s = astep (query (A0 W) (A1 W)) (A4 W) (A5 W) (A6 W) (A7 W) b s := by
  unfold rmove res_main_v97
  clean_types
  pointwise []
  simp only [v88]
  unfold astep step
  rw [← share_eq]
  rfl

end Cert.RefScatter
end
-- ==== Proof.Entropy.lean ====
module

public import proofs.«01_k».proof.Proof.Rows

/-! # The mean surprise: an array of block shares summed, and the mean over the batch -/

@[expose] public section
set_option maxRecDepth 16384
noncomputable section
namespace Cert.Entropy

open Idealize.ShloMosaic

/-- A nonnegative real factor may be taken out of a finite sum of extended reals. -/
theorem sum_mul_real {ι : Type} (s : Finset ι) (f : ι → EReal) (c : ℝ) (hc : 0 ≤ c) :
    ∑ i ∈ s, f i * (c : EReal) = (∑ i ∈ s, f i) * (c : EReal) := by
  classical
  induction s using Finset.induction_on with
  | empty => simp
  | insert a s ha ih =>
    rw [Finset.sum_insert ha, Finset.sum_insert ha, ih,
      EReal.right_distrib_of_nonneg_of_ne_top (EReal.coe_nonneg.mpr hc) (EReal.coe_ne_top c)]

/-- 256 rows, each depending on its group of eight only, sum to eight times each of the 32 groups. -/
theorem sum_eights (f : Fin 32 → EReal) :
    ∑ u : Fin 256, f ⟨u.val / 8, by omega⟩ = ∑ t : Fin 32, 8 • f t := by
  refine (?_ : _ = ∑ t : Fin 32, ∑ _k : Fin 8, f t).trans (Finset.sum_congr rfl fun t _ => by simp)
  rw [← Fintype.sum_prod_type']
  refine Fintype.sum_equiv (finProdFinEquiv (m := 32) (n := 8)).symm _ _ fun u => ?_
  rfl

/-- 1024 copies of a 2097152th part are one 2048th part. -/
theorem copies (x : EReal) :
    8 • 128 • (x * ((1 / 2097152 : ℝ) : EReal)) = x * ((1 / 2048 : ℝ) : EReal) := by
  rw [← mul_nsmul, EReal.nsmul_eq_mul, mul_comm, mul_assoc]
  congr 1
  have h : (((128 * 8 : ℕ) : EReal)) = ((1024 : ℝ) : EReal) := by norm_num; rfl
  rw [h, ← EReal.coe_mul]
  congr 1
  norm_num

/-- The shares written for every block, each repeated over 8 rows of 128 lanes and divided by 2097152, sum to the mean
of the rows' values over the batch of 2048. -/
theorem mean_eq (f : Fin 2048 → EReal) :
    ∑ u : Fin 256, ∑ _v : Fin 128,
        Ideal.div (∑ r : Fin 64, (0 - f ⟨64 * (u.val / 8) + r.val, by omega⟩)) (Ideal.ofBits .f32 1241513984#32)
      = Ideal.div (∑ b, -(f b)) (Ideal.ofBits .f32 0x45000000#32) := by
  rw [show (1241513984#32 : BitVec 32) = 0x4A000000#32 from rfl, Rows.bits_2097152, Rows.bits_2048,
    Ideal.div_coe (by norm_num)]
  simp only [Ideal.div_coe (show (2097152 : ℝ) ≠ 0 by norm_num), Finset.sum_const, Finset.card_univ, Fintype.card_fin,
    zero_sub]
  rw [sum_eights fun t => 128 • ((∑ r : Fin 64, -f ⟨64 * t.val + r.val, by omega⟩) * ((1 / 2097152 : ℝ) : EReal))]
  simp only [copies]
  rw [sum_mul_real _ _ _ (by norm_num), Rows.sum_blocks]

end Cert.Entropy

end
-- ==== Proof.Results.lean ====
module

public import proofs.«01_k».proof.Proof.Gen.ReferenceIdeal.Run
public import proofs.«01_k».proof.Defs
public import proofs.«01_k».proof.Proof.Gen.KernelIdeal
public import proofs.«01_k».proof.Proof.Gen.KernelIdeal.Frame
public import proofs.«01_k».proof.Proof.Gen.ReferenceIdeal
public import proofs.«01_k».proof.Proof.KernelArray
public import proofs.«01_k».proof.Proof.RefScatter
public import proofs.«01_k».proof.Proof.Entropy
public import Idealize.ShloMosaic.Lib.Pipeline.ValueKit
public import Idealize.ShloMosaic.Lib.Claim
public import Idealize.ShloMosaic.Lib.Tactic.CleanTypes
public import Idealize.ShloMosaic.Adequacy
public import Idealize.ShloMosaic.Init

/-! The kernel's run, and the equality of its three results with the reference's. -/

@[expose] public section

set_option maxRecDepth 16384

noncomputable section

namespace Cert.Results

open Idealize.ShloMosaic Idealize.SL.Sem Cert.KernelIdeal

/-- The host's sum of an array of block shares. -/
def summed (x : Vec Ideal S256x128 .f32) : Vec Ideal S_ .f32 :=
  Host.reduceAdd (F := Ideal) x (constant S_ .f32 0x00000000#32) Gen.reducesTo_S256x128_S_d0_1 Gen.h_S_

/-- What the host leaves in the kernel's scalar result: the sum of the region's third array. -/
theorem total (m : (ℓ : Loc nD τ sig) → Buf (Elt Ideal) ℓ) (c : Dev nD) :
    Pipeline.afterTail₀ cfgs (Gen.dats m) 0 (Gen.V0 m) [Gen.hostOps1] c main_v9
      = summed ((Gen.dats m 0 c).arrAt 15 (cfgs 0).N) := by
  unfold Pipeline.afterTail₀
  show StableHlo.after Gen.hostOps1 (Pipeline.withArrays (cfgs 0).spec c (Gen.V0 m c) fun w => (Gen.dats m 0 c).arrAt w (cfgs 0).N)
    (Proc.tc.devRef main_v9) = _
  after_results
  exact congrArg summed (Pipeline.withArrays_arr (cfgs 0).spec (by decide) c (Gen.V0 m c)
    (fun w => (Gen.dats m 0 c).arrAt w (cfgs 0).N) 15)

/-- The kernel's scalar, entry by entry of the array summed. -/
theorem total_apply (x : Vec Ideal S256x128 .f32) (z : S_.Idx) :
    summed x z
      = ∑ u : Fin 256, ∑ v : Fin 128, x (ix2 u v) := by
  unfold summed
  clean_types
  pointwise []

/-- The kernel's run: its two array results are the region's, its scalar the sum of the third, its arguments unchanged. -/
theorem run (m : (ℓ : Loc nD τ sig) → Buf (Elt Ideal) ℓ) (g : Dev nD → PrngReg) :
    θ_run defs (onTc (τ := τ) (main (F := Ideal))) ⟨m, fun _ => 0, g⟩ (fun r => ∀ c : Dev nD,
      r.2.mem ((c.tc : Thread nD τ).loc main_v8_0) = (Gen.dats m 0 c).arrAt 13 (cfgs 0).N
        ∧ r.2.mem ((c.tc : Thread nD τ).loc main_v8_1) = (Gen.dats m 0 c).arrAt 14 (cfgs 0).N
        ∧ r.2.mem ((c.tc : Thread nD τ).loc main_v9)
          = summed ((Gen.dats m 0 c).arrAt 15 (cfgs 0).N)
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10)
        ∧ r.2.mem ((c.tc : Thread nD τ).loc main_arg11) = m ((c.tc : Thread nD τ).loc main_arg11)) :=
  (θ_run defs _ _).mono
    (fun _ h c => ⟨(h.1 c).1 13, (h.1 c).1 14,
      ((h.1 c).2 main_v9 (Pipeline.mem_restRefs_of main_v9 (by decide) (by decide))).trans (total m c), h.2 c⟩)
    (θ_run_and (Gen.run_main m g) (Gen.unchanged m g))

/-- The kernel's three results are the reference's. -/
theorem algebraic : Cert.algebraic_KernelIdeal_ReferenceIdeal (hKernelIdeal := Cert.KernelIdeal.Gen.facts)
    (hReferenceIdeal := Cert.ReferenceIdeal.Gen.facts) := by
  intro m g m' g' _ hagree
  refine ⟨fun c => (Gen.dats m 0 c).arrAt 13 (cfgs 0).N, fun c => (Gen.dats m 0 c).arrAt 14 (cfgs 0).N,
    fun c => summed ((Gen.dats m 0 c).arrAt 15 (cfgs 0).N), run m g, ?_⟩
  refine (θ_run Cert.ReferenceIdeal.defs _ _).mono
    (fun r h c => ⟨(h c).1.trans ?_, (h c).2.1.trans ?_, (h c).2.2.1.trans ?_, (h c).2.2.2⟩)
    (Cert.ReferenceIdeal.Value.run (F := Ideal) m' g')
  all_goals clear h
  all_goals obtain ⟨h0, h1, h2, h3, h4, h5, h6, h7, h8, h9, h10, h11⟩ := hagree c
  all_goals
    have e0 : RefValue.A0 (StableHlo.launchContents m' c) = m (c.tc.loc main_arg0) := h0
    have e1 : RefValue.A1 (StableHlo.launchContents m' c) = m (c.tc.loc main_arg1) := h1
    have e2 : RefValue.A2 (StableHlo.launchContents m' c) = m (c.tc.loc main_arg2) := h2
    have e3 : RefValue.A3 (StableHlo.launchContents m' c) = m (c.tc.loc main_arg3) := h3
    have e4 : RefValue.A4 (StableHlo.launchContents m' c) = m (c.tc.loc main_arg4) := h4
    have e5 : RefValue.A5 (StableHlo.launchContents m' c) = m (c.tc.loc main_arg5) := h5
    have e6 : RefValue.A6 (StableHlo.launchContents m' c) = m (c.tc.loc main_arg6) := h6
    have e7 : RefValue.A7 (StableHlo.launchContents m' c) = m (c.tc.loc main_arg7) := h7
    have e8 : RefValue.A8 (StableHlo.launchContents m' c) = m (c.tc.loc main_arg8) := h8
    have e9 : RefValue.A9 (StableHlo.launchContents m' c) = m (c.tc.loc main_arg9) := h9
    have e10 : RefValue.A10 (StableHlo.launchContents m' c) = m (c.tc.loc main_arg10) := h10
    have e11 : RefValue.A11 (StableHlo.launchContents m' c) = m (c.tc.loc main_arg11) := h11
  · beta_reduce
    rw [KernelArray.arr13]
    funext j
    idx_vars j
    refine (RefValue.read_apply (StableHlo.launchContents m' c) j0 j1 j2).trans ?_
    rw [e0, e1, e2, e3]
  · beta_reduce
    rw [KernelArray.arr14]
    funext j
    idx_vars j
    refine (RefValue.next_apply (StableHlo.launchContents m' c) j0 j1 j2 j3).trans ?_
    rw [RefScatter.rmove_eq, e0, e1, e2, e3, e4, e5, e6, e7, e8, e9, e10, e11]
    rfl
  · beta_reduce
    rw [KernelArray.arr15]
    funext z
    refine (RefValue.entropy_apply (StableHlo.launchContents m' c) z).trans ?_
    refine Eq.trans ?_ (total_apply _ z).symm
    refine (Entropy.mean_eq fun b => Cell.surprise (RefValue.rlogits (StableHlo.launchContents m' c) b)).symm.trans ?_
    unfold RefValue.rlogits
    rw [e0, e1, e6, e7]
    rfl

end Cert.Results

end
-- ==== Proof.lean ====
module

public import proofs.«01_k».proof.Proof.Gen.ReferenceIdeal.Run
public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Results
public import Idealize.ShloMosaic.Adequacy
public import Idealize.ShloMosaic.Init

@[expose] public section

noncomputable section

namespace Cert.Proof

open Idealize.ShloMosaic Idealize.SL.Sem Cert.Kernel

/-- The reference terminates on every device with its arguments unchanged, and it declares no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

/-- All five claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_reference, trivial,
  Cert.Results.algebraic⟩

end Cert.Proof

end
